-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S50000x3 : Shape := ⟨2, ![50000, 3]⟩
abbrev S50000 : Shape := ⟨1, ![50000]⟩
abbrev S12500 : Shape := ⟨1, ![12500]⟩
abbrev S2x800000 : Shape := ⟨2, ![2, 800000]⟩
abbrev S800000 : Shape := ⟨1, ![800000]⟩
abbrev S_ : Shape := ⟨0, ![]⟩

class Facts : Prop where
  bcast_S_S50000 : S_.BroadcastsInDim S50000 (![] : Fin 0 → Fin S50000.rank)
  bcast_S_S12500 : S_.BroadcastsInDim S12500 (![] : Fin 0 → Fin S12500.rank)
  bcast_S_S800000 : S_.BroadcastsInDim S800000 (![] : Fin 0 → Fin S800000.rank)

variable [Facts]

def fn {F : FTy → Type} [FloatOps F] (main_arg0 : FVec F S50000x3 .f32) (main_arg1 : IVec S50000 32) (main_arg2 : IVec S12500 32) (main_arg3 : IVec S50000 32) (main_arg4 : IVec S2x800000 32) (main_arg5 : IVec S800000 32) : IVec S50000 1 × IVec S12500 1 × IVec S800000 1 :=
  let main_c : IVec S_ 32 := constantI S_ 32 0#32
  let main_v0 : IVec S50000 32 := broadcastInDim S50000 ![] bcast_S_S50000 main_c
  let main_v1 : IVec S50000 1 := cmpi .sge main_arg3 main_v0
  let main_c_0 : IVec S_ 32 := constantI S_ 32 16#32
  let main_v2 : IVec S50000 32 := broadcastInDim S50000 ![] bcast_S_S50000 main_c_0
  let main_v3 : IVec S50000 1 := cmpi .slt main_arg3 main_v2
  let main_v4 : IVec S50000 1 := andi main_v1 main_v3
  let main_c_1 : IVec S_ 32 := constantI S_ 32 0#32
  let main_v5 : IVec S12500 32 := broadcastInDim S12500 ![] bcast_S_S12500 main_c_1
  let main_v6 : IVec S12500 1 := cmpi .sge main_arg2 main_v5
  let main_c_2 : IVec S_ 32 := constantI S_ 32 20#32
  let main_v7 : IVec S12500 32 := broadcastInDim S12500 ![] bcast_S_S12500 main_c_2
  let main_v8 : IVec S12500 1 := cmpi .slt main_arg2 main_v7
  let main_v9 : IVec S12500 1 := andi main_v6 main_v8
  let main_c_3 : IVec S_ 32 := constantI S_ 32 0#32
  let main_v10 : IVec S800000 32 := broadcastInDim S800000 ![] bcast_S_S800000 main_c_3
  let main_v11 : IVec S800000 1 := cmpi .sge main_arg5 main_v10
  let main_c_4 : IVec S_ 32 := constantI S_ 32 7#32
  let main_v12 : IVec S800000 32 := broadcastInDim S800000 ![] bcast_S_S800000 main_c_4
  let main_v13 : IVec S800000 1 := cmpi .slt main_arg5 main_v12
  let main_v14 : IVec S800000 1 := andi main_v11 main_v13
  (main_v4, main_v9, main_v14)
-- ==== Kernel.lean ====
abbrev S50000x3 : Shape := ⟨2, ![50000, 3]⟩
abbrev S50000 : Shape := ⟨1, ![50000]⟩
abbrev S12500 : Shape := ⟨1, ![12500]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S16 : Shape := ⟨1, ![16]⟩
abbrev S50000x1 : Shape := ⟨2, ![50000, 1]⟩
abbrev S500x1x1600 : Shape := ⟨3, ![500, 1, 1600]⟩
abbrev S1x1x16 : Shape := ⟨3, ![1, 1, 16]⟩
abbrev S800000x3 : Shape := ⟨2, ![800000, 3]⟩
abbrev S800000x59 : Shape := ⟨2, ![800000, 59]⟩
abbrev S1x1x1600 : Shape := ⟨3, ![1, 1, 1600]⟩
abbrev S8x16 : Shape := ⟨2, ![8, 16]⟩
abbrev S1600 : Shape := ⟨1, ![1600]⟩
abbrev S1600x1 : Shape := ⟨2, ![1600, 1]⟩
abbrev S1x16 : Shape := ⟨2, ![1, 16]⟩
abbrev S1600x16 : Shape := ⟨2, ![1600, 16]⟩
abbrev S1600x1600 : Shape := ⟨2, ![1600, 1600]⟩
abbrev S1600x59 : Shape := ⟨2, ![1600, 59]⟩
abbrev S1x59 : Shape := ⟨2, ![1, 59]⟩

abbrev nBuf : Space → Nat
  | .hbm => 251
  | .vmem => 26
  | .smem => 0
  | _ => 0

abbrev hbmTy0_0 (i : Nat) : BufTy := match i % 128 with
  | 0 => ⟨S50000x3, .f32⟩
  | 1 => ⟨S50000, .i32⟩
  | 2 => ⟨S12500, .i32⟩
  | 3 => ⟨S50000, .i32⟩
  | 4 => ⟨S2x800000, .i32⟩
  | 5 => ⟨S800000, .i32⟩
  | 6 => ⟨S1x800000, .i32⟩
  | 7 => ⟨S800000, .i32⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .i32⟩
  | 19 => ⟨S_, .i32⟩
  | 20 => ⟨S16, .i32⟩
  | 21 => ⟨S_, .i32⟩
  | 22 => ⟨S_, .i32⟩
  | 23 => ⟨S800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S_, .i32⟩
  | 34 => ⟨S800000, .i32⟩
  | 35 => ⟨S16, .i32⟩
  | 36 => ⟨S_, .i32⟩
  | 37 => ⟨S16, .i32⟩
  | 38 => ⟨S_, .i32⟩
  | 39 => ⟨S_, .i32⟩
  | 40 => ⟨S50000, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S_, .i32⟩
  | 51 => ⟨S50000, .i32⟩
  | 52 => ⟨S16, .i32⟩
  | 53 => ⟨S_, .i32⟩
  | 54 => ⟨S_, .i32⟩
  | 55 => ⟨S16, .i32⟩
  | 56 => ⟨S16, .i32⟩
  | 57 => ⟨S_, .i32⟩
  | 58 => ⟨S_, .i32⟩
  | 59 => ⟨S16, .i32⟩
  | 60 => ⟨S16, .i32⟩
  | 61 => ⟨S500x1x1600, .i32⟩
  | 62 => ⟨S1x1x16, .i32⟩
  | 63 => ⟨S500x1x1600, .i32⟩
  | 64 => ⟨S800000, .i32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .i32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .i32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .i32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .i32⟩
  | 101 => ⟨S800000, .i32⟩
  | 102 => ⟨S800000, .i32⟩
  | 103 => ⟨S_, .i32⟩
  | 104 => ⟨S_, .i32⟩
  | 105 => ⟨S_, .i32⟩
  | 106 => ⟨S800000, .i32⟩
  | 107 => ⟨S800000, .i32⟩
  | 108 => ⟨S_, .i32⟩
  | 109 => ⟨S800000, .i32⟩
  | 110 => ⟨S800000, .i32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x3, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x3, .f32⟩

abbrev hbmTy0_1 (i : Nat) : BufTy := match i % 128 with
  | 0 => ⟨S800000x3, .f32⟩
  | 1 => ⟨S800000x3, .f32⟩
  | 2 => ⟨S_, .i32⟩
  | 3 => ⟨S800000, .i32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .i32⟩
  | 13 => ⟨S_, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .i32⟩
  | 24 => ⟨S_, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .i32⟩
  | 35 => ⟨S_, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .i32⟩
  | 46 => ⟨S_, .i32⟩
  | 47 => ⟨S800000, .i32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .i32⟩
  | 57 => ⟨S_, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .i32⟩
  | 68 => ⟨S800000x1, .f32⟩
  | 69 => ⟨S800000, .f32⟩
  | 70 => ⟨S_, .f32⟩
  | 71 => ⟨S800000, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S800000x1, .f32⟩
  | 82 => ⟨S800000, .f32⟩
  | 83 => ⟨S_, .f32⟩
  | 84 => ⟨S800000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S800000x1, .f32⟩
  | 95 => ⟨S800000, .f32⟩
  | 96 => ⟨S_, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S500x1x1600, .i32⟩
  | 108 => ⟨S500x1x1600, .i32⟩
  | 109 => ⟨S500x1x1600, .i32⟩
  | 110 => ⟨S500x1x1600, .i32⟩
  | 111 => ⟨S500x1x1600, .f32⟩
  | 112 => ⟨S500x1x1600, .f32⟩
  | 113 => ⟨S500x1x1600, .f32⟩
  | 114 => ⟨S1x1x16, .i32⟩
  | 115 => ⟨S1x1x16, .i32⟩
  | 116 => ⟨S800000x59, .f32⟩
  | 117 => ⟨S500x1x1600, .i32⟩
  | 118 => ⟨S800000x1, .i32⟩
  | 119 => ⟨S800000x1, .i32⟩
  | 120 => ⟨S800000x1, .i32⟩
  | 121 => ⟨S800000x3, .i32⟩
  | 122 => ⟨S800000, .i32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S1x1x1600, .i32⟩
  | .local _ .vmem, ⟨1, _⟩ => ⟨S1x1x1600, .i32⟩
  | .local _ .vmem, ⟨2, _⟩ => ⟨S1x1x16, .i32⟩
  | .local _ .vmem, ⟨3, _⟩ => ⟨S1x1x1600, .i32⟩
  | .local _ .vmem, ⟨4, _⟩ => ⟨S1x1x1600, .i32⟩
  | .local _ .vmem, ⟨5, _⟩ => ⟨S8x16, .f32⟩
  | .local _ .vmem, ⟨6, _⟩ => ⟨S1x1x1600, .i32⟩
  | .local _ .vmem, ⟨7, _⟩ => ⟨S1x1x1600, .i32⟩
  | .local _ .vmem, ⟨8, _⟩ => ⟨S1x1x1600, .i32⟩
  | .local _ .vmem, ⟨9, _⟩ => ⟨S1x1x1600, .i32⟩
  | .local _ .vmem, ⟨10, _⟩ => ⟨S1x1x1600, .i32⟩
  | .local _ .vmem, ⟨11, _⟩ => ⟨S1x1x1600, .i32⟩
  | .local _ .vmem, ⟨12, _⟩ => ⟨S1x1x1600, .i32⟩
  | .local _ .vmem, ⟨13, _⟩ => ⟨S1x1x1600, .i32⟩
  | .local _ .vmem, ⟨14, _⟩ => ⟨S1x1x1600, .f32⟩
  | .local _ .vmem, ⟨15, _⟩ => ⟨S1x1x1600, .f32⟩
  | .local _ .vmem, ⟨16, _⟩ => ⟨S1x1x1600, .f32⟩
  | .local _ .vmem, ⟨17, _⟩ => ⟨S1x1x1600, .f32⟩
  | .local _ .vmem, ⟨18, _⟩ => ⟨S1x1x1600, .f32⟩
  | .local _ .vmem, ⟨19, _⟩ => ⟨S1x1x1600, .f32⟩
  | .local _ .vmem, ⟨20, _⟩ => ⟨S1x1x16, .i32⟩
  | .local _ .vmem, ⟨21, _⟩ => ⟨S1x1x16, .i32⟩
  | .local _ .vmem, ⟨22, _⟩ => ⟨S1600x59, .f32⟩
  | .local _ .vmem, ⟨23, _⟩ => ⟨S1600x59, .f32⟩
  | .local _ .vmem, ⟨24, _⟩ => ⟨S1x1x1600, .i32⟩
  | .local _ .vmem, ⟨25, _⟩ => ⟨S1x1x1600, .i32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_v4 : Ref sig .tc := ⟨.hbm, 11, rfl⟩
abbrev main_call0_v5 : Ref sig .tc := ⟨.hbm, 12, rfl⟩
abbrev main_call0_c_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_1 : Ref sig .tc := ⟨.hbm, 19, rfl⟩
abbrev main_call0_v11 : Ref sig .tc := ⟨.hbm, 20, rfl⟩
abbrev main_call0_c_2 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_v12 : Ref sig .tc := ⟨.hbm, 24, rfl⟩
abbrev main_call0_c_3 : Ref sig .tc := ⟨.hbm, 25, rfl⟩
abbrev main_call0_v13 : Ref sig .tc := ⟨.hbm, 26, rfl⟩
abbrev main_call0_v14 : Ref sig .tc := ⟨.hbm, 27, rfl⟩
abbrev main_call0_c_4 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_c_5 : Ref sig .tc := ⟨.hbm, 33, rfl⟩
abbrev main_call0_v19 : Ref sig .tc := ⟨.hbm, 34, rfl⟩
abbrev main_v0_3 : Ref sig .tc := ⟨.hbm, 35, rfl⟩
abbrev main_call0_c_6 : Ref sig .tc := ⟨.hbm, 36, rfl⟩
abbrev main_call0_v21 : Ref sig .tc := ⟨.hbm, 37, rfl⟩
abbrev main_call0_c_7 : Ref sig .tc := ⟨.hbm, 38, rfl⟩
abbrev main_call0_call1_v0 : Ref sig .tc := ⟨.hbm, 39, rfl⟩
abbrev main_call0_call1_v1 : Ref sig .tc := ⟨.hbm, 40, rfl⟩
abbrev main_call0_v22 : Ref sig .tc := ⟨.hbm, 41, rfl⟩
abbrev main_call0_c_8 : Ref sig .tc := ⟨.hbm, 42, rfl⟩
abbrev main_call0_v23 : Ref sig .tc := ⟨.hbm, 43, rfl⟩
abbrev main_call0_v24 : Ref sig .tc := ⟨.hbm, 44, rfl⟩
abbrev main_call0_c_9 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_c_10 : Ref sig .tc := ⟨.hbm, 50, rfl⟩
abbrev main_call0_v29 : Ref sig .tc := ⟨.hbm, 51, rfl⟩
abbrev main_call0_v30 : Ref sig .tc := ⟨.hbm, 52, rfl⟩
abbrev main_call0_call2_call0_c : Ref sig .tc := ⟨.hbm, 53, rfl⟩
abbrev main_call0_call2_call0_v0 : Ref sig .tc := ⟨.hbm, 54, rfl⟩
abbrev main_call0_v31 : Ref sig .tc := ⟨.hbm, 55, rfl⟩
abbrev main_call0_v32 : Ref sig .tc := ⟨.hbm, 56, rfl⟩
abbrev main_call0_call3_call0_c : Ref sig .tc := ⟨.hbm, 57, rfl⟩
abbrev main_call0_call3_call0_v0 : Ref sig .tc := ⟨.hbm, 58, rfl⟩
abbrev main_call0_v33 : Ref sig .tc := ⟨.hbm, 59, rfl⟩
abbrev main_call0_v34 : Ref sig .tc := ⟨.hbm, 60, rfl⟩
abbrev main_call0_v35 : Ref sig .tc := ⟨.hbm, 61, rfl⟩
abbrev main_call0_v36 : Ref sig .tc := ⟨.hbm, 62, rfl⟩
abbrev main_call0_v37 : Ref sig .tc := ⟨.hbm, 63, rfl⟩
abbrev main_call0_v38 : Ref sig .tc := ⟨.hbm, 64, rfl⟩
abbrev main_call0_c_11 : Ref sig .tc := ⟨.hbm, 65, rfl⟩
abbrev main_call0_v39 : Ref sig .tc := ⟨.hbm, 66, rfl⟩
abbrev main_call0_v40 : Ref sig .tc := ⟨.hbm, 67, rfl⟩
abbrev main_call0_c_12 : Ref sig .tc := ⟨.hbm, 68, rfl⟩
abbrev main_call0_v41 : Ref sig .tc := ⟨.hbm, 69, rfl⟩
abbrev main_call0_v42 : Ref sig .tc := ⟨.hbm, 70, rfl⟩
abbrev main_call0_v43 : Ref sig .tc := ⟨.hbm, 71, rfl⟩
abbrev main_call0_v44 : Ref sig .tc := ⟨.hbm, 72, rfl⟩
abbrev main_call0_v45 : Ref sig .tc := ⟨.hbm, 73, rfl⟩
abbrev main_call0_c_13 : Ref sig .tc := ⟨.hbm, 74, rfl⟩
abbrev main_call0_v46 : Ref sig .tc := ⟨.hbm, 75, rfl⟩
abbrev main_call0_v47 : Ref sig .tc := ⟨.hbm, 76, rfl⟩
abbrev main_call0_c_14 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_c_15 : Ref sig .tc := ⟨.hbm, 83, rfl⟩
abbrev main_call0_v53 : Ref sig .tc := ⟨.hbm, 84, rfl⟩
abbrev main_call0_v54 : Ref sig .tc := ⟨.hbm, 85, rfl⟩
abbrev main_call0_c_16 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_c_17 : Ref sig .tc := ⟨.hbm, 92, rfl⟩
abbrev main_call0_v60 : Ref sig .tc := ⟨.hbm, 93, rfl⟩
abbrev main_call0_v61 : Ref sig .tc := ⟨.hbm, 94, rfl⟩
abbrev main_call0_c_18 : Ref sig .tc := ⟨.hbm, 95, rfl⟩
abbrev main_call0_v62 : Ref sig .tc := ⟨.hbm, 96, rfl⟩
abbrev main_call0_v63 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_v67 : Ref sig .tc := ⟨.hbm, 101, rfl⟩
abbrev main_call0_v68 : Ref sig .tc := ⟨.hbm, 102, rfl⟩
abbrev main_call0_c_19 : Ref sig .tc := ⟨.hbm, 103, rfl⟩
abbrev main_call0_c_20 : Ref sig .tc := ⟨.hbm, 104, rfl⟩
abbrev main_call0_call4_v0 : Ref sig .tc := ⟨.hbm, 105, rfl⟩
abbrev main_call0_call4_v1 : Ref sig .tc := ⟨.hbm, 106, rfl⟩
abbrev main_call0_call4_v2 : Ref sig .tc := ⟨.hbm, 107, rfl⟩
abbrev main_call0_call4_v3 : Ref sig .tc := ⟨.hbm, 108, rfl⟩
abbrev main_call0_call4_v4 : Ref sig .tc := ⟨.hbm, 109, rfl⟩
abbrev main_call0_v69 : Ref sig .tc := ⟨.hbm, 110, rfl⟩
abbrev main_call0_c_21 : Ref sig .tc := ⟨.hbm, 111, rfl⟩
abbrev main_call0_v70 : Ref sig .tc := ⟨.hbm, 112, rfl⟩
abbrev main_call0_v71 : Ref sig .tc := ⟨.hbm, 113, rfl⟩
abbrev main_call0_c_22 : Ref sig .tc := ⟨.hbm, 114, rfl⟩
abbrev main_call0_v72 : Ref sig .tc := ⟨.hbm, 115, rfl⟩
abbrev main_call0_v73 : Ref sig .tc := ⟨.hbm, 116, rfl⟩
abbrev main_call0_v74 : Ref sig .tc := ⟨.hbm, 117, rfl⟩
abbrev main_call0_v75 : Ref sig .tc := ⟨.hbm, 118, rfl⟩
abbrev main_call0_v76 : Ref sig .tc := ⟨.hbm, 119, rfl⟩
abbrev main_call0_c_23 : Ref sig .tc := ⟨.hbm, 120, rfl⟩
abbrev main_call0_v77 : Ref sig .tc := ⟨.hbm, 121, rfl⟩
abbrev main_call0_v78 : Ref sig .tc := ⟨.hbm, 122, rfl⟩
abbrev main_call0_c_24 : Ref sig .tc := ⟨.hbm, 123, rfl⟩
abbrev main_call0_v79 : Ref sig .tc := ⟨.hbm, 124, rfl⟩
abbrev main_call0_v80 : Ref sig .tc := ⟨.hbm, 125, rfl⟩
abbrev main_call0_v81 : Ref sig .tc := ⟨.hbm, 126, rfl⟩
abbrev main_call0_v82 : Ref sig .tc := ⟨.hbm, 127, rfl⟩
abbrev main_call0_v83 : Ref sig .tc := ⟨.hbm, 128, rfl⟩
abbrev main_call0_v84 : Ref sig .tc := ⟨.hbm, 129, rfl⟩
abbrev main_call0_c_25 : Ref sig .tc := ⟨.hbm, 130, rfl⟩
abbrev main_call0_v85 : Ref sig .tc := ⟨.hbm, 131, rfl⟩
abbrev main_call0_c_26 : Ref sig .tc := ⟨.hbm, 132, rfl⟩
abbrev main_call0_v86 : Ref sig .tc := ⟨.hbm, 133, rfl⟩
abbrev main_call0_v87 : Ref sig .tc := ⟨.hbm, 134, rfl⟩
abbrev main_call0_c_27 : Ref sig .tc := ⟨.hbm, 135, rfl⟩
abbrev main_call0_v88 : Ref sig .tc := ⟨.hbm, 136, rfl⟩
abbrev main_call0_v89 : Ref sig .tc := ⟨.hbm, 137, rfl⟩
abbrev main_call0_v90 : Ref sig .tc := ⟨.hbm, 138, rfl⟩
abbrev main_call0_v91 : Ref sig .tc := ⟨.hbm, 139, rfl⟩
abbrev main_call0_v92 : Ref sig .tc := ⟨.hbm, 140, rfl⟩
abbrev main_call0_c_28 : Ref sig .tc := ⟨.hbm, 141, rfl⟩
abbrev main_call0_v93 : Ref sig .tc := ⟨.hbm, 142, rfl⟩
abbrev main_call0_c_29 : Ref sig .tc := ⟨.hbm, 143, rfl⟩
abbrev main_call0_v94 : Ref sig .tc := ⟨.hbm, 144, rfl⟩
abbrev main_call0_v95 : Ref sig .tc := ⟨.hbm, 145, rfl⟩
abbrev main_call0_c_30 : Ref sig .tc := ⟨.hbm, 146, rfl⟩
abbrev main_call0_v96 : Ref sig .tc := ⟨.hbm, 147, rfl⟩
abbrev main_call0_v97 : Ref sig .tc := ⟨.hbm, 148, rfl⟩
abbrev main_call0_v98 : Ref sig .tc := ⟨.hbm, 149, rfl⟩
abbrev main_call0_v99 : Ref sig .tc := ⟨.hbm, 150, rfl⟩
abbrev main_call0_v100 : Ref sig .tc := ⟨.hbm, 151, rfl⟩
abbrev main_call0_c_31 : Ref sig .tc := ⟨.hbm, 152, rfl⟩
abbrev main_call0_v101 : Ref sig .tc := ⟨.hbm, 153, rfl⟩
abbrev main_call0_c_32 : Ref sig .tc := ⟨.hbm, 154, rfl⟩
abbrev main_call0_v102 : Ref sig .tc := ⟨.hbm, 155, rfl⟩
abbrev main_call0_v103 : Ref sig .tc := ⟨.hbm, 156, rfl⟩
abbrev main_call0_c_33 : Ref sig .tc := ⟨.hbm, 157, rfl⟩
abbrev main_call0_v104 : Ref sig .tc := ⟨.hbm, 158, rfl⟩
abbrev main_call0_v105 : Ref sig .tc := ⟨.hbm, 159, rfl⟩
abbrev main_call0_v106 : Ref sig .tc := ⟨.hbm, 160, rfl⟩
abbrev main_call0_v107 : Ref sig .tc := ⟨.hbm, 161, rfl⟩
abbrev main_call0_v108 : Ref sig .tc := ⟨.hbm, 162, rfl⟩
abbrev main_call0_c_34 : Ref sig .tc := ⟨.hbm, 163, rfl⟩
abbrev main_call0_v109 : Ref sig .tc := ⟨.hbm, 164, rfl⟩
abbrev main_call0_c_35 : Ref sig .tc := ⟨.hbm, 165, rfl⟩
abbrev main_call0_v110 : Ref sig .tc := ⟨.hbm, 166, rfl⟩
abbrev main_call0_v111 : Ref sig .tc := ⟨.hbm, 167, rfl⟩
abbrev main_call0_c_36 : Ref sig .tc := ⟨.hbm, 168, rfl⟩
abbrev main_call0_v112 : Ref sig .tc := ⟨.hbm, 169, rfl⟩
abbrev main_call0_v113 : Ref sig .tc := ⟨.hbm, 170, rfl⟩
abbrev main_call0_v114 : Ref sig .tc := ⟨.hbm, 171, rfl⟩
abbrev main_call0_v115 : Ref sig .tc := ⟨.hbm, 172, rfl⟩
abbrev main_call0_v116 : Ref sig .tc := ⟨.hbm, 173, rfl⟩
abbrev main_call0_c_37 : Ref sig .tc := ⟨.hbm, 174, rfl⟩
abbrev main_call0_v117 : Ref sig .tc := ⟨.hbm, 175, rfl⟩
abbrev main_call0_c_38 : Ref sig .tc := ⟨.hbm, 176, rfl⟩
abbrev main_call0_v118 : Ref sig .tc := ⟨.hbm, 177, rfl⟩
abbrev main_call0_v119 : Ref sig .tc := ⟨.hbm, 178, rfl⟩
abbrev main_call0_c_39 : Ref sig .tc := ⟨.hbm, 179, rfl⟩
abbrev main_call0_v120 : Ref sig .tc := ⟨.hbm, 180, rfl⟩
abbrev main_call0_v121 : Ref sig .tc := ⟨.hbm, 181, rfl⟩
abbrev main_call0_v122 : Ref sig .tc := ⟨.hbm, 182, rfl⟩
abbrev main_call0_v123 : Ref sig .tc := ⟨.hbm, 183, rfl⟩
abbrev main_call0_v124 : Ref sig .tc := ⟨.hbm, 184, rfl⟩
abbrev main_call0_c_40 : Ref sig .tc := ⟨.hbm, 185, rfl⟩
abbrev main_call0_v125 : Ref sig .tc := ⟨.hbm, 186, rfl⟩
abbrev main_call0_c_41 : Ref sig .tc := ⟨.hbm, 187, rfl⟩
abbrev main_call0_v126 : Ref sig .tc := ⟨.hbm, 188, rfl⟩
abbrev main_call0_v127 : Ref sig .tc := ⟨.hbm, 189, rfl⟩
abbrev main_call0_c_42 : Ref sig .tc := ⟨.hbm, 190, rfl⟩
abbrev main_call0_v128 : Ref sig .tc := ⟨.hbm, 191, rfl⟩
abbrev main_call0_v129 : Ref sig .tc := ⟨.hbm, 192, rfl⟩
abbrev main_call0_v130 : Ref sig .tc := ⟨.hbm, 193, rfl⟩
abbrev main_call0_v131 : Ref sig .tc := ⟨.hbm, 194, rfl⟩
abbrev main_call0_v132 : Ref sig .tc := ⟨.hbm, 195, rfl⟩
abbrev main_call0_v133 : Ref sig .tc := ⟨.hbm, 196, rfl⟩
abbrev main_call0_v134 : Ref sig .tc := ⟨.hbm, 197, rfl⟩
abbrev main_call0_cst : Ref sig .tc := ⟨.hbm, 198, rfl⟩
abbrev main_call0_v135 : Ref sig .tc := ⟨.hbm, 199, rfl⟩
abbrev main_call0_c_43 : Ref sig .tc := ⟨.hbm, 200, rfl⟩
abbrev main_call0_v136 : Ref sig .tc := ⟨.hbm, 201, rfl⟩
abbrev main_call0_v137 : Ref sig .tc := ⟨.hbm, 202, rfl⟩
abbrev main_call0_c_44 : Ref sig .tc := ⟨.hbm, 203, rfl⟩
abbrev main_call0_v138 : Ref sig .tc := ⟨.hbm, 204, rfl⟩
abbrev main_call0_v139 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_v143 : Ref sig .tc := ⟨.hbm, 209, rfl⟩
abbrev main_call0_v144 : Ref sig .tc := ⟨.hbm, 210, rfl⟩
abbrev main_call0_cst_45 : Ref sig .tc := ⟨.hbm, 211, rfl⟩
abbrev main_call0_v145 : Ref sig .tc := ⟨.hbm, 212, rfl⟩
abbrev main_call0_c_46 : Ref sig .tc := ⟨.hbm, 213, rfl⟩
abbrev main_call0_v146 : Ref sig .tc := ⟨.hbm, 214, rfl⟩
abbrev main_call0_v147 : Ref sig .tc := ⟨.hbm, 215, rfl⟩
abbrev main_call0_c_47 : Ref sig .tc := ⟨.hbm, 216, rfl⟩
abbrev main_call0_v148 : Ref sig .tc := ⟨.hbm, 217, rfl⟩
abbrev main_call0_v149 : Ref sig .tc := ⟨.hbm, 218, rfl⟩
abbrev main_call0_v150 : Ref sig .tc := ⟨.hbm, 219, rfl⟩
abbrev main_call0_v151 : Ref sig .tc := ⟨.hbm, 220, rfl⟩
abbrev main_call0_v152 : Ref sig .tc := ⟨.hbm, 221, rfl⟩
abbrev main_call0_v153 : Ref sig .tc := ⟨.hbm, 222, rfl⟩
abbrev main_call0_v154 : Ref sig .tc := ⟨.hbm, 223, rfl⟩
abbrev main_call0_cst_48 : Ref sig .tc := ⟨.hbm, 224, rfl⟩
abbrev main_call0_v155 : Ref sig .tc := ⟨.hbm, 225, rfl⟩
abbrev main_call0_c_49 : Ref sig .tc := ⟨.hbm, 226, rfl⟩
abbrev main_call0_v156 : Ref sig .tc := ⟨.hbm, 227, rfl⟩
abbrev main_call0_v157 : Ref sig .tc := ⟨.hbm, 228, rfl⟩
abbrev main_call0_c_50 : Ref sig .tc := ⟨.hbm, 229, rfl⟩
abbrev main_call0_v158 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_v164 : Ref sig .tc := ⟨.hbm, 236, rfl⟩
abbrev main_call0_v165 : Ref sig .tc := ⟨.hbm, 237, rfl⟩
abbrev main_call0_v166 : Ref sig .tc := ⟨.hbm, 238, rfl⟩
abbrev main_call0_v167 : Ref sig .tc := ⟨.hbm, 239, rfl⟩
abbrev main_call0_v168 : Ref sig .tc := ⟨.hbm, 240, rfl⟩
abbrev main_call0_v169 : Ref sig .tc := ⟨.hbm, 241, rfl⟩
abbrev main_call0_v170 : Ref sig .tc := ⟨.hbm, 242, rfl⟩
abbrev main_call0_v171 : Ref sig .tc := ⟨.hbm, 243, rfl⟩
abbrev main_v0_1 : Ref sig .tc := ⟨.hbm, 244, rfl⟩
abbrev main_call0_v172_1 : Ref sig .tc := ⟨.hbm, 245, rfl⟩
abbrev main_call0_v173 : Ref sig .tc := ⟨.hbm, 246, rfl⟩
abbrev main_call0_v174 : Ref sig .tc := ⟨.hbm, 247, rfl⟩
abbrev main_call0_v175 : Ref sig .tc := ⟨.hbm, 248, rfl⟩
abbrev main_v0_0 : Ref sig .tc := ⟨.hbm, 249, rfl⟩
abbrev main_v0_2 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1600 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1600 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1600 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1600 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1600 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1600 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1600 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1600 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1x16 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1x16 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1600x59 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x1600 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S50000x3 : Shape := ⟨2, ![50000, 3]⟩
abbrev S50000 : Shape := ⟨1, ![50000]⟩
abbrev S12500 : Shape := ⟨1, ![12500]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S16 : Shape := ⟨1, ![16]⟩
abbrev S50000x1 : Shape := ⟨2, ![50000, 1]⟩
abbrev S1 : Shape := ⟨1, ![1]⟩
abbrev S15 : Shape := ⟨1, ![15]⟩
abbrev S16x1 : Shape := ⟨2, ![16, 1]⟩
abbrev S1x1 : Shape := ⟨2, ![1, 1]⟩
abbrev S800000x3 : Shape := ⟨2, ![800000, 3]⟩
abbrev S1x20 : Shape := ⟨2, ![1, 20]⟩
abbrev S800000x20 : Shape := ⟨2, ![800000, 20]⟩
abbrev S1x7 : Shape := ⟨2, ![1, 7]⟩
abbrev S800000x7 : Shape := ⟨2, ![800000, 7]⟩
abbrev S1x11 : Shape := ⟨2, ![1, 11]⟩
abbrev S800000x11 : Shape := ⟨2, ![800000, 11]⟩
abbrev S800000x59 : Shape := ⟨2, ![800000, 59]⟩

abbrev nBuf : Space → Nat
  | .hbm => 240
  | .vmem => 0
  | .smem => 0
  | _ => 0

abbrev hbmTy0_0 (i : Nat) : BufTy := match i % 128 with
  | 0 => ⟨S50000x3, .f32⟩
  | 1 => ⟨S50000, .i32⟩
  | 2 => ⟨S12500, .i32⟩
  | 3 => ⟨S50000, .i32⟩
  | 4 => ⟨S2x800000, .i32⟩
  | 5 => ⟨S800000, .i32⟩
  | 6 => ⟨S1x800000, .i32⟩
  | 7 => ⟨S800000, .i32⟩
  | 8 => ⟨S1x800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .i32⟩
  | 19 => ⟨S800000, .i32⟩
  | 20 => ⟨S800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .i32⟩
  | 49 => ⟨S_, .i32⟩
  | 50 => ⟨S16, .i32⟩
  | 51 => ⟨S_, .i32⟩
  | 52 => ⟨S_, .i32⟩
  | 53 => ⟨S800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S_, .i32⟩
  | 64 => ⟨S800000, .i32⟩
  | 65 => ⟨S16, .i32⟩
  | 66 => ⟨S_, .i32⟩
  | 67 => ⟨S16, .i32⟩
  | 68 => ⟨S_, .i32⟩
  | 69 => ⟨S_, .i32⟩
  | 70 => ⟨S50000, .i32⟩
  | 71 => ⟨S50000, .i32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S_, .i32⟩
  | 81 => ⟨S50000, .i32⟩
  | 82 => ⟨S16, .i32⟩
  | 83 => ⟨S_, .i32⟩
  | 84 => ⟨S_, .i32⟩
  | 85 => ⟨S16, .i32⟩
  | 86 => ⟨S16, .i32⟩
  | 87 => ⟨S1, .i32⟩
  | 88 => ⟨S15, .i32⟩
  | 89 => ⟨S16, .i32⟩
  | 90 => ⟨S_, .i32⟩
  | 91 => ⟨S1, .i32⟩
  | 92 => ⟨S_, .i32⟩
  | 93 => ⟨S16, .i32⟩
  | 94 => ⟨S_, .i32⟩
  | 95 => ⟨S_, .i32⟩
  | 96 => ⟨S16, .i32⟩
  | 97 => ⟨S_, .i32⟩
  | 98 => ⟨S800000, .i32⟩
  | 99 => ⟨S_, .i32⟩
  | 100 => ⟨S16, .i32⟩
  | 101 => ⟨S16, .i1⟩
  | 102 => ⟨S_, .i32⟩
  | 103 => ⟨S16, .i32⟩
  | 104 => ⟨S16, .i32⟩
  | 105 => ⟨S16, .i32⟩
  | 106 => ⟨S16x1, .i32⟩
  | 107 => ⟨S_, .i32⟩
  | 108 => ⟨S16, .i32⟩
  | 109 => ⟨S800000, .i32⟩
  | 110 => ⟨S_, .i32⟩
  | 111 => ⟨S_, .i32⟩
  | 112 => ⟨S800000, .i32⟩
  | 113 => ⟨S_, .i32⟩
  | 114 => ⟨S800000, .i32⟩
  | 115 => ⟨S800000, .i32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S1, .i32⟩
  | 125 => ⟨S_, .i32⟩
  | 126 => ⟨S800000x1, .i32⟩
  | 127 => ⟨S800000x1, .i1⟩
  | _ => ⟨S50000x3, .f32⟩

abbrev hbmTy0_1 (i : Nat) : BufTy := match i % 128 with
  | 0 => ⟨S1x1, .i32⟩
  | 1 => ⟨S800000x1, .i32⟩
  | 2 => ⟨S800000x1, .i1⟩
  | 3 => ⟨S800000x1, .i1⟩
  | 4 => ⟨S_, .i1⟩
  | 5 => ⟨S800000, .i1⟩
  | 6 => ⟨S800000, .i32⟩
  | 7 => ⟨S_, .i32⟩
  | 8 => ⟨S800000, .i32⟩
  | 9 => ⟨S800000, .i32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .i32⟩
  | 46 => ⟨S800000, .i32⟩
  | 47 => ⟨S800000, .i32⟩
  | 48 => ⟨S_, .i32⟩
  | 49 => ⟨S_, .i32⟩
  | 50 => ⟨S_, .i32⟩
  | 51 => ⟨S800000, .i32⟩
  | 52 => ⟨S800000, .i32⟩
  | 53 => ⟨S_, .i32⟩
  | 54 => ⟨S800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x3, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x3, .f32⟩
  | 74 => ⟨S800000x3, .f32⟩
  | 75 => ⟨S800000x3, .f32⟩
  | 76 => ⟨S_, .f32⟩
  | 77 => ⟨S800000, .f32⟩
  | 78 => ⟨S_, .f32⟩
  | 79 => ⟨S800000, .f32⟩
  | 80 => ⟨S800000, .f32⟩
  | 81 => ⟨S800000, .f32⟩
  | 82 => ⟨S800000x1, .i32⟩
  | 83 => ⟨S1x20, .i32⟩
  | 84 => ⟨S800000x20, .i32⟩
  | 85 => ⟨S800000x20, .i32⟩
  | 86 => ⟨S800000x20, .i1⟩
  | 87 => ⟨S800000x20, .f32⟩
  | 88 => ⟨S800000x1, .i32⟩
  | 89 => ⟨S1x20, .i32⟩
  | 90 => ⟨S800000x20, .i32⟩
  | 91 => ⟨S800000x20, .i32⟩
  | 92 => ⟨S800000x20, .i1⟩
  | 93 => ⟨S800000x20, .f32⟩
  | 94 => ⟨S800000x1, .i32⟩
  | 95 => ⟨S1x7, .i32⟩
  | 96 => ⟨S800000x7, .i32⟩
  | 97 => ⟨S800000x7, .i32⟩
  | 98 => ⟨S800000x7, .i1⟩
  | 99 => ⟨S800000x7, .f32⟩
  | 100 => ⟨S800000x1, .i32⟩
  | 101 => ⟨S1x11, .i32⟩
  | 102 => ⟨S800000x11, .i32⟩
  | 103 => ⟨S800000x11, .i32⟩
  | 104 => ⟨S800000x11, .i1⟩
  | 105 => ⟨S800000x11, .f32⟩
  | 106 => ⟨S800000x1, .f32⟩
  | 107 => ⟨S800000x59, .f32⟩
  | 108 => ⟨S800000x1, .i32⟩
  | 109 => ⟨S800000x1, .i32⟩
  | 110 => ⟨S800000x1, .i32⟩
  | 111 => ⟨S800000x3, .i32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1_0 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_c_8 : Ref sig .tc := ⟨.hbm, 51, rfl⟩
abbrev main_call1_v0 : Ref sig .tc := ⟨.hbm, 52, rfl⟩
abbrev main_call1_v1 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_11 : Ref sig .tc := ⟨.hbm, 63, rfl⟩
abbrev main_v41 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_c_13 : Ref sig .tc := ⟨.hbm, 68, rfl⟩
abbrev main_call2_v0 : Ref sig .tc := ⟨.hbm, 69, rfl⟩
abbrev main_call2_v1 : Ref sig .tc := ⟨.hbm, 70, rfl⟩
abbrev main_v44 : Ref sig .tc := ⟨.hbm, 71, rfl⟩
abbrev main_c_14 : Ref sig .tc := ⟨.hbm, 72, rfl⟩
abbrev main_v45 : Ref sig .tc := ⟨.hbm, 73, rfl⟩
abbrev main_v46 : Ref sig .tc := ⟨.hbm, 74, rfl⟩
abbrev main_c_15 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_16 : Ref sig .tc := ⟨.hbm, 80, rfl⟩
abbrev main_v51 : Ref sig .tc := ⟨.hbm, 81, rfl⟩
abbrev main_v52 : Ref sig .tc := ⟨.hbm, 82, rfl⟩
abbrev main_call3_call0_c : Ref sig .tc := ⟨.hbm, 83, rfl⟩
abbrev main_call3_call0_v0 : Ref sig .tc := ⟨.hbm, 84, rfl⟩
abbrev main_v53 : Ref sig .tc := ⟨.hbm, 85, rfl⟩
abbrev main_v54 : Ref sig .tc := ⟨.hbm, 86, rfl⟩
abbrev main_call4_v0 : Ref sig .tc := ⟨.hbm, 87, rfl⟩
abbrev main_call4_v1 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_c_18 : Ref sig .tc := ⟨.hbm, 92, rfl⟩
abbrev main_v57 : Ref sig .tc := ⟨.hbm, 93, rfl⟩
abbrev main_call5_call0_c : Ref sig .tc := ⟨.hbm, 94, rfl⟩
abbrev main_call5_call0_v0 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_c_20 : Ref sig .tc := ⟨.hbm, 99, rfl⟩
abbrev main_v60 : Ref sig .tc := ⟨.hbm, 100, rfl⟩
abbrev main_v61 : Ref sig .tc := ⟨.hbm, 101, rfl⟩
abbrev main_c_21 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_22 : Ref sig .tc := ⟨.hbm, 107, rfl⟩
abbrev main_v66 : Ref sig .tc := ⟨.hbm, 108, rfl⟩
abbrev main_v67 : Ref sig .tc := ⟨.hbm, 109, rfl⟩
abbrev main_call6_call0_c : Ref sig .tc := ⟨.hbm, 110, rfl⟩
abbrev main_call6_call0_v0 : Ref sig .tc := ⟨.hbm, 111, rfl⟩
abbrev main_v68 : Ref sig .tc := ⟨.hbm, 112, rfl⟩
abbrev main_c_23 : Ref sig .tc := ⟨.hbm, 113, rfl⟩
abbrev main_v69 : Ref sig .tc := ⟨.hbm, 114, rfl⟩
abbrev main_v70 : Ref sig .tc := ⟨.hbm, 115, rfl⟩
abbrev main_call7_c : Ref sig .tc := ⟨.hbm, 116, rfl⟩
abbrev main_call7_v0 : Ref sig .tc := ⟨.hbm, 117, rfl⟩
abbrev main_call7_v1 : Ref sig .tc := ⟨.hbm, 118, rfl⟩
abbrev main_call7_c_0 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_call7_v5 : Ref sig .tc := ⟨.hbm, 123, rfl⟩
abbrev main_call7_c_1 : Ref sig .tc := ⟨.hbm, 124, rfl⟩
abbrev main_call7_c_2 : Ref sig .tc := ⟨.hbm, 125, rfl⟩
abbrev main_call7_v6 : Ref sig .tc := ⟨.hbm, 126, rfl⟩
abbrev main_call7_v7 : Ref sig .tc := ⟨.hbm, 127, rfl⟩
abbrev main_call7_v8 : Ref sig .tc := ⟨.hbm, 128, rfl⟩
abbrev main_call7_v9 : Ref sig .tc := ⟨.hbm, 129, rfl⟩
abbrev main_call7_v10 : Ref sig .tc := ⟨.hbm, 130, rfl⟩
abbrev main_call7_v11 : Ref sig .tc := ⟨.hbm, 131, rfl⟩
abbrev main_call7_c_3 : Ref sig .tc := ⟨.hbm, 132, rfl⟩
abbrev main_call7_v12 : Ref sig .tc := ⟨.hbm, 133, rfl⟩
abbrev main_call7_v13 : Ref sig .tc := ⟨.hbm, 134, rfl⟩
abbrev main_call7_c_4 : Ref sig .tc := ⟨.hbm, 135, rfl⟩
abbrev main_call7_v14 : Ref sig .tc := ⟨.hbm, 136, rfl⟩
abbrev main_v71 : Ref sig .tc := ⟨.hbm, 137, rfl⟩
abbrev main_c_24 : Ref sig .tc := ⟨.hbm, 138, rfl⟩
abbrev main_v72 : Ref sig .tc := ⟨.hbm, 139, rfl⟩
abbrev main_v73 : Ref sig .tc := ⟨.hbm, 140, rfl⟩
abbrev main_c_25 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_c_26 : Ref sig .tc := ⟨.hbm, 147, rfl⟩
abbrev main_v79 : Ref sig .tc := ⟨.hbm, 148, rfl⟩
abbrev main_v80 : Ref sig .tc := ⟨.hbm, 149, rfl⟩
abbrev main_c_27 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_c_28 : Ref sig .tc := ⟨.hbm, 156, rfl⟩
abbrev main_v86 : Ref sig .tc := ⟨.hbm, 157, rfl⟩
abbrev main_v87 : Ref sig .tc := ⟨.hbm, 158, rfl⟩
abbrev main_c_29 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_c_30 : Ref sig .tc := ⟨.hbm, 165, rfl⟩
abbrev main_v93 : Ref sig .tc := ⟨.hbm, 166, rfl⟩
abbrev main_v94 : Ref sig .tc := ⟨.hbm, 167, rfl⟩
abbrev main_c_31 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_c_32 : Ref sig .tc := ⟨.hbm, 176, rfl⟩
abbrev main_c_33 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_v102 : Ref sig .tc := ⟨.hbm, 183, rfl⟩
abbrev main_c_34 : Ref sig .tc := ⟨.hbm, 184, rfl⟩
abbrev main_v103 : Ref sig .tc := ⟨.hbm, 185, rfl⟩
abbrev main_v104 : Ref sig .tc := ⟨.hbm, 186, rfl⟩
abbrev main_c_35 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_c_36 : Ref sig .tc := ⟨.hbm, 193, rfl⟩
abbrev main_v110 : Ref sig .tc := ⟨.hbm, 194, rfl⟩
abbrev main_v111 : Ref sig .tc := ⟨.hbm, 195, rfl⟩
abbrev main_c_37 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_cst : Ref sig .tc := ⟨.hbm, 204, rfl⟩
abbrev main_v119 : Ref sig .tc := ⟨.hbm, 205, rfl⟩
abbrev main_cst_38 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_call9_v0 : Ref sig .tc := ⟨.hbm, 210, rfl⟩
abbrev main_call9_v1 : Ref sig .tc := ⟨.hbm, 211, rfl⟩
abbrev main_call9_v2 : Ref sig .tc := ⟨.hbm, 212, rfl⟩
abbrev main_call9_v3 : Ref sig .tc := ⟨.hbm, 213, rfl⟩
abbrev main_call9_v4 : Ref sig .tc := ⟨.hbm, 214, rfl⟩
abbrev main_v123 : Ref sig .tc := ⟨.hbm, 215, rfl⟩
abbrev main_call10_v0 : Ref sig .tc := ⟨.hbm, 216, rfl⟩
abbrev main_call10_v1 : Ref sig .tc := ⟨.hbm, 217, rfl⟩
abbrev main_call10_v2 : Ref sig .tc := ⟨.hbm, 218, rfl⟩
abbrev main_call10_v3 : Ref sig .tc := ⟨.hbm, 219, rfl⟩
abbrev main_call10_v4 : Ref sig .tc := ⟨.hbm, 220, rfl⟩
abbrev main_v124 : Ref sig .tc := ⟨.hbm, 221, rfl⟩
abbrev main_call11_v0 : Ref sig .tc := ⟨.hbm, 222, rfl⟩
abbrev main_call11_v1 : Ref sig .tc := ⟨.hbm, 223, rfl⟩
abbrev main_call11_v2 : Ref sig .tc := ⟨.hbm, 224, rfl⟩
abbrev main_call11_v3 : Ref sig .tc := ⟨.hbm, 225, rfl⟩
abbrev main_call11_v4 : Ref sig .tc := ⟨.hbm, 226, rfl⟩
abbrev main_v125 : Ref sig .tc := ⟨.hbm, 227, rfl⟩
abbrev main_call12_v0 : Ref sig .tc := ⟨.hbm, 228, rfl⟩
abbrev main_call12_v1 : Ref sig .tc := ⟨.hbm, 229, rfl⟩
abbrev main_call12_v2 : Ref sig .tc := ⟨.hbm, 230, rfl⟩
abbrev main_call12_v3 : Ref sig .tc := ⟨.hbm, 231, rfl⟩
abbrev main_call12_v4 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩

abbrev nD : Nat := 1
abbrev τ : Topo := Topo.v7x

variable {F : FTy → Type} [FloatOps F]
-- ==== Proof.RankRegion.lean ====
/- The first region of the kernel, the rank pass, at any contents `V` of the buffers when it is entered: what each grid
   point stores, what the carried row of running counts holds between points, and the proof data the pipeline takes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.ReadBack
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole key block (and the whole rank block). -/
abbrev rKey : Rect S1x1x1600 := Rect.unit (s := S1x1x1600) ![0, 0, 0] S1x1x1600.size inb_S1x1x1600_S1x1x1600_0_0_0
/-- The whole block of sixteen starts. -/
abbrev rStart : Rect S1x1x16 := Rect.unit (s := S1x1x16) ![0, 0, 0] S1x1x16.size inb_S1x1x16_S1x1x16_0_0_0
/-- The whole scratch. -/
abbrev rAll : Rect S8x16 := Rect.unit (s := S8x16) ![0, 0] S8x16.size inb_S8x16_S8x16_0_0
/-- The scratch's first row, the only one the kernel reads. -/
abbrev rRow : Rect S8x16 := Rect.unit (s := S8x16) ![0, 0] S1x16.size inb_S8x16_S1x16_0_0

/-- The scratch, as the kernel is given it. -/
abbrev scratch : Memref sig .tc .vmem S8x16 .f32 := Memref.whole cc0_scratch0

/-- The branch condition: this is the first grid point. -/
abbrev atFirst (i : grid0.Coords) : Prop := (Scalar.cmpi .ne (Scalar.extui (Scalar.cmpi .eq (BitVec.ofNat 32 (i 0).val) 0#32)) 0#32) = 1#1

/-- The branch is taken at the first point only. -/
theorem atFirst_iff : ∀ t : Fin cfg0.N, atFirst (grid0.coords t) ↔ t.val % 500 = 0 :=
  (fun t => by
    have ht : t.val < 500 := Nat.lt_of_lt_of_eq t.isLt N_0
    have e0 : (grid0.coords t 0).val = t.val / 1 % 500 := Pipeline.Grid.coords_val t 0 (by decide) rfl
    simp only [atFirst, e0]
    word_cmp
   : ∀ t : Fin grid0.N, atFirst (grid0.coords t) ↔ t.val % 500 = 0)

/-- The rank block the body stores, from the key block, the running counts and the starts. -/
def rankOut (x0 : Vec F S1x1x1600 .i32) (row : Vec F S1x16 .f32) (x1 : Vec F S1x1x16 .i32) : Vec F S1x1x1600 .i32 :=
  View.canon [⟨rKey, k0_pay4 (View.ld x0 rKey) row (View.ld x1 rStart)⟩]

/-- The running counts after a block, from those before it. -/
def rowNext (x0 : Vec F S1x1x1600 .i32) (row : Vec F S1x16 .f32) : Vec F S1x16 .f32 :=
  k0_pay1 (k0_pay5 (View.ld x0 rKey) row)

/-- The first row of the scratch, read after the scratch was filled whole. -/
theorem row_of_fill (v : View sig .tc .vmem S8x16 .f32) (w : Vec F S8x16 .f32) :
    v.readCov (Val := Elt F) [⟨rAll, w⟩] rRow.toLoadRect = View.ld w rRow :=
  View.readCov_fill (Val := Elt F) v (off := ![0, 0]) inb_S8x16_S8x16_0_0 w [] rRow (by decide)

/-- One store of the whole rank block covers it. -/
theorem rank_cover (p0 : Vec F S1x1x1600 .i32) (y : S1x1x1600.Idx) :
    ∃ pc ∈ ([⟨rKey, p0⟩] : List (View.Piece (Elt F) S1x1x1600 .i32)), y ∈ pc.1.set :=
  View.cover_of_tiled [⟨rKey, p0⟩] S1x1x1600.size (by rfl) y

set_option maxHeartbeats 1000000 in
/-- The body away from the first point: the scratch's row goes from the counts before this block to those after it, the
    output block to the ranks. -/
theorem body_later (c : Dev nD) (E : Set ℕ) (i : grid0.Coords) (arg1 : Memref sig .tc .vmem S1x1x1600 .i32) (harg1 : arg1.IsWhole) (arg2 : Memref sig .tc .vmem S1x1x16 .i32) (harg2 : arg2.IsWhole) (arg3 : Memref sig .tc .vmem S1x1x1600 .i32) (harg3 : arg3.IsWhole) (arg4 : Memref sig .tc .vmem S8x16 .f32) (harg4 : arg4.IsWhole) (hc : ¬ atFirst i)
    (x0 : Vec F S1x1x1600 .i32) (x1 : Vec F S1x1x16 .i32) (xs : Vec F S8x16 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (rankOut x0 (View.ld xs rRow) x1)
          ∗ (∃ d, ⌜View.ld d rRow = rowNext x0 (View.ld xs rRow)⌝ ∗ owns (c : Thread nD τ) arg4 fullShare d)) -∗ K ⟨⟩))
      ⊢ wp frame (wpE (defs₀ (F := F)) Variants.none c none) E (cc0__rank_body i arg1 harg1 arg2 harg2 arg3 harg3 arg4 harg4) K := by
  simp only [cc0__rank_body_eq_skeleton]; unfold cc0__rank_body_skel
  simp only [k0_part1_eq_skeleton]
  unfold owns
  iintro ⟨⟨%f0, %hf0, H0⟩, ⟨%f1, %hf1, H1⟩, ⟨%d2, %f2, -, H2⟩, ⟨%fs, %hfs, HS⟩, Hk⟩
  subst hf0 hf1 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (rank_cover _)
  iexists _
  isplitr
  swap
  · iexists _; isplitr
    swap; · iexact HS
    ipureintro; rfl
  ipureintro
  exact funext fun x => View.read_writes_cons_emb _ _ rRow _ _ x

set_option maxHeartbeats 1000000 in
/-- The body at the first point: the scratch is zeroed first, whatever it held. -/
theorem body_first (c : Dev nD) (E : Set ℕ) (i : grid0.Coords) (arg1 : Memref sig .tc .vmem S1x1x1600 .i32) (harg1 : arg1.IsWhole) (arg2 : Memref sig .tc .vmem S1x1x16 .i32) (harg2 : arg2.IsWhole) (arg3 : Memref sig .tc .vmem S1x1x1600 .i32) (harg3 : arg3.IsWhole) (arg4 : Memref sig .tc .vmem S8x16 .f32) (harg4 : arg4.IsWhole) (hc : atFirst i)
    (x0 : Vec F S1x1x1600 .i32) (x1 : Vec F S1x1x16 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (rankOut x0 (View.ld (k0_pay2 (F := F)) rRow) x1)
          ∗ (∃ d, ⌜View.ld d rRow = rowNext x0 (View.ld (k0_pay2 (F := F)) rRow)⌝ ∗ owns (c : Thread nD τ) arg4 fullShare d)) -∗ K ⟨⟩))
      ⊢ wp frame (wpE (defs₀ (F := F)) Variants.none c none) E (cc0__rank_body i arg1 harg1 arg2 harg2 arg3 harg3 arg4 harg4) K := by
  simp only [cc0__rank_body_eq_skeleton]; unfold cc0__rank_body_skel
  simp only [k0_part1_eq_skeleton]
  unfold owns
  iintro ⟨⟨%f0, %hf0, H0⟩, ⟨%f1, %hf1, H1⟩, ⟨%d2, %f2, -, H2⟩, ⟨%ds, %fs, -, HS⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    unfold body_first.sl.v18 body_first.sl.HS_1
    rw [row_of_fill]
    exact View.read_writes_eq_canon _ _ _ (rank_cover _)
  iexists _
  isplitr
  swap
  · iexists _; isplitr
    swap; · iexact HS
    ipureintro; rfl
  ipureintro
  unfold body_first.sl.r body_first.sl.HS_1 body_first.sl.v18 body_first.sl.HS_1
  rw [row_of_fill]
  exact funext fun x => View.read_writes_cons_emb _ _ rRow _ _ x

/-! ## The invariant and the proof data -/

/-- The running counts before point `n`. -/
def prevRow (c : Dev nD) : ℕ → Vec F S1x16 .f32
  | 0 => View.ld (k0_pay2 (F := F)) rRow
  | n + 1 => if h : n < cfg0.N then rowNext (blk0 V c 0 ⟨n, h⟩) (prevRow c n) else prevRow c n

/-- One point's step of the running counts. -/
theorem prevRow_succ (c : Dev nD) (t : Fin cfg0.N) : prevRow V c (t.val + 1) = rowNext (blk0 V c 0 t) (prevRow V c t.val) := by
  simp only [prevRow, t.isLt, dif_pos]

/-- The scoped buffers of this region other than the scratch are the other region's staging buffers, held at anything. -/
theorem exists_others (c : Dev nD) : ∃ R : sProp 𝕄,
    (Pipeline.ΦA spec0 c : sProp 𝕄) = iprop(((∃ d, owns (c : Thread nD τ) scratch fullShare d) ∗ R) ∗ (∃ r, prngReg c r)) := by
  unfold Pipeline.ΦA; rw [scopedRest0_eq]; simp only [scratch, owns_whole]; exact ⟨_, rfl⟩

/-- The other region's staging buffers. -/
def others (c : Dev nD) : sProp 𝕄 := (exists_others (F := F) c).choose

/-- What is held between points: before the first the scratch at anything, later with its first row at the running counts. -/
def inv0 (c : Dev nD) : ℕ → sProp 𝕄
  | 0 => Pipeline.ΦA spec0 c
  | n + 1 => iprop((∃ d, ⌜View.ld d rRow = prevRow V c (n + 1)⌝ ∗ owns (c : Thread nD τ) scratch fullShare d) ∗ others (F := F) c ∗ (∃ r, prngReg c r))

/-- The invariant before the first point, opened. -/
theorem inv0_open (c : Dev nD) :
    (Pipeline.ΦA spec0 c : sProp 𝕄) = iprop(((∃ d, owns (c : Thread nD τ) scratch fullShare d) ∗ others (F := F) c) ∗ (∃ r, prngReg c r)) :=
  (exists_others (F := F) c).choose_spec

/-- The invariant at a later point. -/
theorem inv0_pos (c : Dev nD) (n : ℕ) (h : n ≠ 0) :
    inv0 V c n = iprop((∃ d, ⌜View.ld d rRow = prevRow V c n⌝ ∗ owns (c : Thread nD τ) scratch fullShare d) ∗ others (F := F) c ∗ (∃ r, prngReg c r)) := by
  cases n with
  | zero => exact absurd rfl h
  | succ n => rfl

/-- The rank pass's proof data: the inputs kept, the output block of a point at the ranks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => rankOut (blk0 V c 0 t) (prevRow V c t.val) (blk0 V c 1 t)
  Φ t := inv0 V c t.val
  q _ := fullShare
  owed _ := 0

/-- Every window's array is the content it was launched on. -/
theorem A0_eq (c : Dev nD) (w : Fin cfg0.W) : (dat0 V c).A w = V c (Pipeline.arrRef spec0 w) := by
  dsimp only [dat0]

/-- The label window after a point still holds the point's block. -/
theorem after0_0 (c : Dev nD) (t : Fin cfg0.N) : (dat0 V c).after 0 t = blk0 V c 0 t := by dsimp only [dat0]
/-- The start window after a point still holds the table of starts. -/
theorem after0_1 (c : Dev nD) (t : Fin cfg0.N) : (dat0 V c).after 1 t = blk0 V c 1 t := by dsimp only [dat0]
/-- The rank window after a point holds the point's ranks. -/
theorem after0_2 (c : Dev nD) (t : Fin cfg0.N) :
    (dat0 V c).after 2 t = rankOut (blk0 V c 0 t) (prevRow V c t.val) (blk0 V c 1 t) := by dsimp only [dat0]

/-- The key window's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl) (fun t => after0_0 V c t) t d).trans (by rw [blk0, ← A0_eq V c 0]; rfl)
/-- The starts window's staging buffer holds the starts at every point. -/
theorem before0_1 (c : Dev nD) (t : Fin cfg0.N) (d) : (dat0 V c).before 1 t d = blk0 V c 1 t :=
  ((dat0 V c).before_in_eq_fetched 1 rfl (fun _ => rfl) (fun _ _ _ => rfl) (fun t => after0_1 V c t) t d).trans (by rw [blk0, ← A0_eq V c 1]; rfl)

/-- What the body is called with at a point, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 3200000 in
/-- The body at any point. -/
theorem sound_body0 (c : Dev nD) (t : Fin cfg0.N) :
    pre0 V c t ⊢ wp frame (wpE (defs₀ (F := F)) Variants.none c none) Set.univ (bodyAt0 t) (fun _ => post0 V c t) := by
  have hN : t.val < 500 := Nat.lt_of_lt_of_eq t.isLt N_0
  unfold pre0 post0 bodyAt0
  simp only [before0_0 V, before0_1 V, after0_0 V, after0_1 V, after0_2 V]
  rw [show (dat0 V c).Φ t.castSucc = inv0 V c t.val from rfl, show (dat0 V c).Φ t.succ = inv0 V c (t.val + 1) from rfl,
    show (dat0 V c).owesAt () t.succ = (dat0 V c).owesAt () t.castSucc from rfl,
    inv0_pos V c (t.val + 1) (Nat.succ_ne_zero _), prevRow_succ]
  by_cases hz : t.val = 0
  · rw [hz, show inv0 V c 0 = Pipeline.ΦA spec0 c from rfl, inv0_open]
    iintro ⟨⟨⟨HS, HR⟩, Hg⟩, Ho, ⟨%d0, H0⟩, ⟨%d1, H1⟩, ⟨%d2, H2⟩⟩
    iapply (body_first c Set.univ (grid0.coords t) _ _ _ _ _ _ _ _ ((atFirst_iff t).mpr (by omega)) (blk0 V c 0 t) (blk0 V c 1 t) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [inv0_pos V c t.val hz]
    iintro ⟨⟨⟨%ds, %hds, HS⟩, HR, Hg⟩, Ho, ⟨%d0, H0⟩, ⟨%d1, H1⟩, ⟨%d2, H2⟩⟩
    rw [← hds]
    iapply (body_later c Set.univ (grid0.coords t) _ _ _ _ _ _ _ _ (fun h => hz (by have := (atFirst_iff t).mp h; omega)) (blk0 V c 0 t) (blk0 V c 1 t) ds _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2

/-- The body table's row at a point's slots. -/
theorem defs₀_row0 (t : Fin cfg0.N) : defs₀ (F := F) .tc cfg0.body (cfg0.bodyArgs t (cfg0.slots t)) = bodyAt0 t := by
  unfold defs₀; rw [Defs.onTc_tc]

/-- The pipeline's body obligation for the rank pass. -/
theorem obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The invariant before the first point is what the launch hands over, -/
theorem enter0 (c : Dev nD) : Pipeline.ΦA spec0 c ⊢ (dat0 V c).Φ 0 := by
  rw [show (dat0 V c).Φ 0 = Pipeline.ΦA spec0 c from rfl]

/-- and after the last point it gives that back. -/
theorem leave0 (c : Dev nD) : (dat0 V c).Φ (Fin.last cfg0.N) ⊢ Pipeline.ΦA spec0 c := by
  rw [show (dat0 V c).Φ (Fin.last cfg0.N) = inv0 V c cfg0.N from rfl, inv0_pos V c cfg0.N (by rw [show cfg0.N = 500 from N_0]; decide), inv0_open]
  iintro ⟨⟨%d, %hd, HS⟩, HR, Hg⟩
  isplitl [HS HR]
  · isplitl [HS]
    · iexists _; iexact HS
    iexact HR
  iexact Hg

end Cert.KernelIdeal.Run

end
-- ==== Proof.FeatRegion.lean ====
/- The second region of the kernel, the feature pass, at any contents `V` of the buffers when it is entered: what each grid
   point stores in the two output windows, and the proof data the pipeline takes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole block of 1600 entries. -/
abbrev rLane : Rect S1x1x1600 := Rect.unit (s := S1x1x1600) ![0, 0, 0] S1x1x1600.size inb_S1x1x1600_S1x1x1600_0_0_0
/-- A whole block of sixteen starts. -/
abbrev rGraph : Rect S1x1x16 := Rect.unit (s := S1x1x16) ![0, 0, 0] S1x1x16.size inb_S1x1x16_S1x1x16_0_0_0
/-- A whole block of features. -/
abbrev rFeat : Rect S1600x59 := Rect.unit (s := S1600x59) ![0, 0] S1600x59.size inb_S1600x59_S1600x59_0_0

/-- The feature block the body stores, from the seven blocks of edge data. -/
def featOut (x0 x1 x2 x3 : Vec F S1x1x1600 .i32) (x4 x5 x6 : Vec F S1x1x1600 .f32) : Vec F S1600x59 .f32 :=
  View.canon [⟨rFeat, k1_pay8 (k1_pay2 (View.ld x3 rLane)) (k1_pay3 (View.ld x4 rLane)) (k1_pay4 (View.ld x5 rLane)) (k1_pay5 (View.ld x6 rLane)) (iota .tc S1x59 32 [1] iota_S1x59_d1_w32) (k1_pay6 (View.ld x0 rLane) (View.ld x1 rLane)) (k1_pay7 (View.ld x2 rLane))⟩]

/-- The offset block the body stores, from the point's number and the two tables of starts. -/
def offOut (i : grid1.Coords) (x7 x8 : Vec F S1x1x16 .i32) : Vec F S1x1x1600 .i32 :=
  View.canon [⟨rLane, k1_pay1 (k1_pay9 (View.ld x8 rGraph)) (k1_pay10 (BitVec.ofNat 32 (i 0).val) (View.ld x7 rGraph)) k1_pay11⟩]

/-- One store of the whole feature block covers it. -/
theorem feat_cover (p0 : Vec F S1600x59 .f32) (y : S1600x59.Idx) :
    ∃ pc ∈ ([⟨rFeat, p0⟩] : List (View.Piece (Elt F) S1600x59 .f32)), y ∈ pc.1.set :=
  View.cover_of_tiled [⟨rFeat, p0⟩] S1600x59.size (by rfl) y

/-- One store of the whole offset block covers it. -/
theorem off_cover (p0 : Vec F S1x1x1600 .i32) (y : S1x1x1600.Idx) :
    ∃ pc ∈ ([⟨rLane, p0⟩] : List (View.Piece (Elt F) S1x1x1600 .i32)), y ∈ pc.1.set :=
  View.cover_of_tiled [⟨rLane, p0⟩] S1x1x1600.size (by rfl) y

set_option maxHeartbeats 1000000 in
/-- The body: the nine inputs are kept, the two output blocks are left at the features and the offsets. -/
theorem body_feat (c : Dev nD) (E : Set ℕ) (i : grid1.Coords) (arg1 : Memref sig .tc .vmem S1x1x1600 .i32) (harg1 : arg1.IsWhole) (arg2 : Memref sig .tc .vmem S1x1x1600 .i32) (harg2 : arg2.IsWhole) (arg3 : Memref sig .tc .vmem S1x1x1600 .i32) (harg3 : arg3.IsWhole) (arg4 : Memref sig .tc .vmem S1x1x1600 .i32) (harg4 : arg4.IsWhole) (arg5 : Memref sig .tc .vmem S1x1x1600 .f32) (harg5 : arg5.IsWhole) (arg6 : Memref sig .tc .vmem S1x1x1600 .f32) (harg6 : arg6.IsWhole) (arg7 : Memref sig .tc .vmem S1x1x1600 .f32) (harg7 : arg7.IsWhole) (arg8 : Memref sig .tc .vmem S1x1x16 .i32) (harg8 : arg8.IsWhole) (arg9 : Memref sig .tc .vmem S1x1x16 .i32) (harg9 : arg9.IsWhole) (arg10 : Memref sig .tc .vmem S1600x59 .f32) (harg10 : arg10.IsWhole) (arg11 : Memref sig .tc .vmem S1x1x1600 .i32) (harg11 : arg11.IsWhole)
    (x0 : Vec F S1x1x1600 .i32) (x1 : Vec F S1x1x1600 .i32) (x2 : Vec F S1x1x1600 .i32) (x3 : Vec F S1x1x1600 .i32) (x4 : Vec F S1x1x1600 .f32) (x5 : Vec F S1x1x1600 .f32) (x6 : Vec F S1x1x1600 .f32) (x7 : Vec F S1x1x16 .i32) (x8 : Vec F S1x1x16 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (featOut x0 x1 x2 x3 x4 x5 x6) ∗ owns (c : Thread nD τ) arg11 fullShare (offOut i x7 x8)) -∗ K ⟨⟩))
      ⊢ wp frame (wpE (defs₀ (F := F)) Variants.none c none) E (cc1__feature_body i arg1 harg1 arg2 harg2 arg3 harg3 arg4 harg4 arg5 harg5 arg6 harg6 arg7 harg7 arg8 harg8 arg9 harg9 arg10 harg10 arg11 harg11) K := by
  simp only [cc1__feature_body_eq_skeleton]; unfold cc1__feature_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (feat_cover _)
  iexists _; isplitr
  swap; · iexact H10
  ipureintro
  exact View.read_writes_eq_canon _ _ _ (off_cover _)

/-! ## The proof data -/

/-- The feature pass's proof data: the inputs kept, the two outputs of a point at the features and the offsets. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => featOut (blk1 V c 0 t) (blk1 V c 1 t) (blk1 V c 2 t) (blk1 V c 3 t) (blk1 V c 4 t) (blk1 V c 5 t) (blk1 V c 6 t)
    | ⟨10, _⟩ => offOut (grid1.coords t) (blk1 V c 7 t) (blk1 V c 8 t)
  Φ _ := Pipeline.ΦA spec1 c
  q _ := fullShare
  owed _ := 0

/-- Every window's array is the content it was launched on. -/
theorem A1_eq (c : Dev nD) (w : Fin cfg1.W) : (dat1 V c).A w = V c (Pipeline.arrRef spec1 w) := by
  dsimp only [dat1]

/-- The feature window after a point holds the point's features. -/
theorem after1_9 (c : Dev nD) (t : Fin cfg1.N) :
    (dat1 V c).after 9 t = featOut (blk1 V c 0 t) (blk1 V c 1 t) (blk1 V c 2 t) (blk1 V c 3 t) (blk1 V c 4 t) (blk1 V c 5 t) (blk1 V c 6 t) := by dsimp only [dat1]
/-- The offset window after a point holds the point's offsets. -/
theorem after1_10 (c : Dev nD) (t : Fin cfg1.N) :
    (dat1 V c).after 10 t = offOut (grid1.coords t) (blk1 V c 7 t) (blk1 V c 8 t) := by dsimp only [dat1]
/-- Input window 0 after a point still holds the point's block. -/
theorem after1_0 (c : Dev nD) (t : Fin cfg1.N) : (dat1 V c).after 0 t = blk1 V c 0 t := by dsimp only [dat1]
/-- Input window 1 after a point still holds the point's block. -/
theorem after1_1 (c : Dev nD) (t : Fin cfg1.N) : (dat1 V c).after 1 t = blk1 V c 1 t := by dsimp only [dat1]
/-- Input window 2 after a point still holds the point's block. -/
theorem after1_2 (c : Dev nD) (t : Fin cfg1.N) : (dat1 V c).after 2 t = blk1 V c 2 t := by dsimp only [dat1]
/-- Input window 3 after a point still holds the point's block. -/
theorem after1_3 (c : Dev nD) (t : Fin cfg1.N) : (dat1 V c).after 3 t = blk1 V c 3 t := by dsimp only [dat1]
/-- Input window 4 after a point still holds the point's block. -/
theorem after1_4 (c : Dev nD) (t : Fin cfg1.N) : (dat1 V c).after 4 t = blk1 V c 4 t := by dsimp only [dat1]
/-- Input window 5 after a point still holds the point's block. -/
theorem after1_5 (c : Dev nD) (t : Fin cfg1.N) : (dat1 V c).after 5 t = blk1 V c 5 t := by dsimp only [dat1]
/-- Input window 6 after a point still holds the point's block. -/
theorem after1_6 (c : Dev nD) (t : Fin cfg1.N) : (dat1 V c).after 6 t = blk1 V c 6 t := by dsimp only [dat1]
/-- Input window 7 after a point still holds the point's block. -/
theorem after1_7 (c : Dev nD) (t : Fin cfg1.N) : (dat1 V c).after 7 t = blk1 V c 7 t := by dsimp only [dat1]
/-- Input window 8 after a point still holds the point's block. -/
theorem after1_8 (c : Dev nD) (t : Fin cfg1.N) : (dat1 V c).after 8 t = blk1 V c 8 t := by dsimp only [dat1]

/-! Each input's staging buffer holds its block at every point. -/

/-- Input window 0 before a point holds the point's block. -/
theorem before1_0 (c : Dev nD) (t : Fin cfg1.N) (d) : (dat1 V c).before 0 t d = blk1 V c 0 t :=
  ((dat1 V c).before_in_eq_fetched 0 rfl (fun _ => rfl) (fun _ _ _ => rfl) (fun t => after1_0 V c t) t d).trans (by rw [blk1, ← A1_eq V c 0]; rfl)
/-- Input window 1 before a point holds the point's block. -/
theorem before1_1 (c : Dev nD) (t : Fin cfg1.N) (d) : (dat1 V c).before 1 t d = blk1 V c 1 t :=
  ((dat1 V c).before_in_eq_fetched 1 rfl (fun _ => rfl) (fun _ _ _ => rfl) (fun t => after1_1 V c t) t d).trans (by rw [blk1, ← A1_eq V c 1]; rfl)
/-- Input window 2 before a point holds the point's block. -/
theorem before1_2 (c : Dev nD) (t : Fin cfg1.N) (d) : (dat1 V c).before 2 t d = blk1 V c 2 t :=
  ((dat1 V c).before_in_eq_fetched 2 rfl (fun _ => rfl) (fun _ _ _ => rfl) (fun t => after1_2 V c t) t d).trans (by rw [blk1, ← A1_eq V c 2]; rfl)
/-- Input window 3 before a point holds the point's block. -/
theorem before1_3 (c : Dev nD) (t : Fin cfg1.N) (d) : (dat1 V c).before 3 t d = blk1 V c 3 t :=
  ((dat1 V c).before_in_eq_fetched 3 rfl (fun _ => rfl) (fun _ _ _ => rfl) (fun t => after1_3 V c t) t d).trans (by rw [blk1, ← A1_eq V c 3]; rfl)
/-- Input window 4 before a point holds the point's block. -/
theorem before1_4 (c : Dev nD) (t : Fin cfg1.N) (d) : (dat1 V c).before 4 t d = blk1 V c 4 t :=
  ((dat1 V c).before_in_eq_fetched 4 rfl (fun _ => rfl) (fun _ _ _ => rfl) (fun t => after1_4 V c t) t d).trans (by rw [blk1, ← A1_eq V c 4]; rfl)
/-- Input window 5 before a point holds the point's block. -/
theorem before1_5 (c : Dev nD) (t : Fin cfg1.N) (d) : (dat1 V c).before 5 t d = blk1 V c 5 t :=
  ((dat1 V c).before_in_eq_fetched 5 rfl (fun _ => rfl) (fun _ _ _ => rfl) (fun t => after1_5 V c t) t d).trans (by rw [blk1, ← A1_eq V c 5]; rfl)
/-- Input window 6 before a point holds the point's block. -/
theorem before1_6 (c : Dev nD) (t : Fin cfg1.N) (d) : (dat1 V c).before 6 t d = blk1 V c 6 t :=
  ((dat1 V c).before_in_eq_fetched 6 rfl (fun _ => rfl) (fun _ _ _ => rfl) (fun t => after1_6 V c t) t d).trans (by rw [blk1, ← A1_eq V c 6]; rfl)
/-- Input window 7 before a point holds the point's block. -/
theorem before1_7 (c : Dev nD) (t : Fin cfg1.N) (d) : (dat1 V c).before 7 t d = blk1 V c 7 t :=
  ((dat1 V c).before_in_eq_fetched 7 rfl (fun _ => rfl) (fun _ _ _ => rfl) (fun t => after1_7 V c t) t d).trans (by rw [blk1, ← A1_eq V c 7]; rfl)
/-- Input window 8 before a point holds the point's block. -/
theorem before1_8 (c : Dev nD) (t : Fin cfg1.N) (d) : (dat1 V c).before 8 t d = blk1 V c 8 t :=
  ((dat1 V c).before_in_eq_fetched 8 rfl (fun _ => rfl) (fun _ _ _ => rfl) (fun t => after1_8 V c t) t d).trans (by rw [blk1, ← A1_eq V c 8]; rfl)

/-- What the body is called with at a point, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it gives back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point. -/
theorem sound_body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_feat c Set.univ (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at a point's slots. -/
theorem defs₀_row1 (t : Fin cfg1.N) : defs₀ (F := F) .tc cfg1.body (cfg1.bodyArgs t (cfg1.slots t)) = bodyAt1 t := by
  unfold defs₀; rw [Defs.onTc_tc]

/-- The pipeline's body obligation for the feature pass. -/
theorem obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Run.lean ====
/- The whole run of the kernel: the contents of the buffers at each boundary of @main, the two regions as segments, and
   the launch, which gives every unscoped buffer at the last boundary's contents and every counter at zero. -/
module

public import proofs.«01_k».proof.Proof.RankRegion
public import proofs.«01_k».proof.Proof.FeatRegion
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- What the rank pass is entered from, read at the TensorCore's references. -/
abbrev inRank : (c : Dev nD) → (b : Ref sig .tc) → Buf (Elt F) ((c : Thread nD τ).loc b) := fun c b => V1 m c b

/-- The contents when the rank pass is left. -/
def afterRank (c : Dev nD) : Valuation τ sig (Elt F) :=
  Pipeline.withArrays spec0 c (V1 m c) fun w => (dat0 (inRank m) c).arrAt w cfg0.N

/-- The contents after the host operations between the two passes. -/
def beforeFeat (c : Dev nD) : Valuation τ sig (Elt F) := StableHlo.after hostOps1 (afterRank m c)

/-- What the feature pass is entered from, read at the TensorCore's references. -/
abbrev inFeat : (c : Dev nD) → (b : Ref sig .tc) → Buf (Elt F) ((c : Thread nD τ).loc b) := fun c b => beforeFeat m c b

/-- The contents when the feature pass is left. -/
def afterFeat (c : Dev nD) : Valuation τ sig (Elt F) :=
  Pipeline.withArrays spec1 c (beforeFeat m c) fun w => (dat1 (inFeat m) c).arrAt w cfg1.N

/-- The contents at the end. -/
def atEnd (c : Dev nD) : Valuation τ sig (Elt F) := StableHlo.after hostOps2 (afterFeat m c)

/-- An array of the rank pass holds what the pass leaves in it. -/
theorem afterRank_arr (c : Dev nD) (w : Fin cfg0.W) :
    afterRank m c (Proc.devRef .tc (Pipeline.arrRef spec0 w)) = (dat0 (inRank m) c).arrAt w cfg0.N := by
  unfold afterRank; exact Pipeline.withArrays_arr spec0 launch0.win.arr_inj c _ _ w
/-- A buffer that is no array of the rank pass is kept through it. -/
theorem afterRank_of_ne (c : Dev nD) (b : Ref sig .tc) (hb : ∀ w, Pipeline.arrRef spec0 w ≠ b) :
    afterRank m c (Proc.devRef .tc b) = V1 m c (Proc.devRef .tc b) := by
  unfold afterRank; exact Pipeline.withArrays_of_ne spec0 c _ _ b hb
/-- An array of the feature pass holds what the pass leaves in it. -/
theorem afterFeat_arr (c : Dev nD) (w : Fin cfg1.W) :
    afterFeat m c (Proc.devRef .tc (Pipeline.arrRef spec1 w)) = (dat1 (inFeat m) c).arrAt w cfg1.N := by
  unfold afterFeat; exact Pipeline.withArrays_arr spec1 launch1.win.arr_inj c _ _ w
/-- A buffer that is no array of the feature pass is kept through it. -/
theorem afterFeat_of_ne (c : Dev nD) (b : Ref sig .tc) (hb : ∀ w, Pipeline.arrRef spec1 w ≠ b) :
    afterFeat m c (Proc.devRef .tc b) = beforeFeat m c (Proc.devRef .tc b) := by
  unfold afterFeat; exact Pipeline.withArrays_of_ne spec1 c _ _ b hb

/-! ## The proof data, the regions as segments -/

/-- The two passes' proof data. -/
def pdats : (p : Fin 2) → (c : Dev nD) → Dat τ (Elt F) Unit ℕ (UR sig nD τ) ℕ (Pipeline.pin (pcfgs (F := F)) adm p) c
  | ⟨0, _⟩ => fun c => dat0 (inRank m) c
  | ⟨1, _⟩ => fun c => dat1 (inFeat m) c

/-- No call takes a variant. -/
abbrev 𝒱₀ : Variants := Variants.none
/-- No core owes another anything, -/
abbrev L : GSem nD τ sig → Finset Unit := fun _ => ∅
/-- so no level is assigned. -/
abbrev lv : GSem nD τ sig → Unit → ℕ := fun _ _ => 0
/-- What rides beside the buffers: the generator register, and the core owing nothing. -/
abbrev riding (c : Dev nD) : sProp 𝕄 := iprop((∃ r, prngReg c r) ∗ ∃ W, owes (c : Thread nD τ) (0 : CellTallies nD τ sig Unit) W)

/-- A stretch of host operations as a segment, entered from the contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

set_option backward.isDefEq.respectTransparency.types false in
/-- The rank pass as a segment. -/
def rankSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (inRank m) c).loose
  hwaits := Pipeline.hwaits_of_owed_zero _ _ _ _ L lv 0 fun _ _ => rfl
  pre c := iprop(StableHlo.held (c : Thread nD τ) (Pipeline.ucRefs τ sig) (V1 m c) ∗ riding c)
  post c := iprop(StableHlo.held (c : Thread nD τ) (Pipeline.ucRefs τ sig) (afterRank m c) ∗ riding c)
  X c := iprop(∃ r, prngReg c r)
  Y c := iprop(∃ r, prngReg c r)
  Z c := Pipeline.unscopedRest (Ix := Unit) (Name := ℕ) (U := UR sig nD τ) (Lvl := ℕ) spec0 c (inRank m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inRank m c) (A0_eq (inRank m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := enter0 (inRank m) c
    unfold Pipeline.ΦA at h
    rw [show (pdats m 0 c).Φ 0 = (dat0 (inRank m) c).Φ 0 from rfl]
    iintro ⟨Hp, -, Hr⟩
    iapply h
    isplitl [Hr]; · iexact Hr
    iexact Hp
  hout c := by
    have h := leave0 (inRank m) c
    unfold Pipeline.ΦA at h
    rw [Pipeline.ownSems0_none, show (pdats m 0 c).Φ (Fin.last _) = (dat0 (inRank m) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inRank m c) (fun b => afterRank m c b) ((pdats m 0 c).arrAt · cfg0.N) (fun w => (afterRank_arr m c w).symm)
      (fun b hb => afterRank_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The feature pass as a segment. -/
def featSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (inFeat m) c).loose
  hwaits := Pipeline.hwaits_of_owed_zero _ _ _ _ L lv 1 fun _ _ => rfl
  pre c := iprop(StableHlo.held (c : Thread nD τ) (Pipeline.ucRefs τ sig) (beforeFeat m c) ∗ riding c)
  post c := iprop(StableHlo.held (c : Thread nD τ) (Pipeline.ucRefs τ sig) (afterFeat m c) ∗ riding c)
  X c := iprop(∃ r, prngReg c r)
  Y c := iprop(∃ r, prngReg c r)
  Z c := Pipeline.unscopedRest (Ix := Unit) (Name := ℕ) (U := UR sig nD τ) (Lvl := ℕ) spec1 c (inFeat m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inFeat m c) (A1_eq (inFeat m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inFeat m c) (fun b => afterFeat m c b) ((pdats m 1 c).arrAt · cfg1.N) (fun w => (afterFeat_arr m c w).symm)
      (fun b hb => afterFeat_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments, in order. -/
abbrev segments : List (Pipeline.Seg (pcfgs (F := F)) adm (pdats m) () defs₀ 𝒱₀ L lv) :=
  [ .host (hostStretch hostOps0 hostOps0_sub hostOps0_fresh (V0 m)),
    .region (rankSeg m),
    .host (hostStretch hostOps1 hostOps1_sub hostOps1_fresh (afterRank m)),
    .region (featSeg m),
    .host (hostStretch hostOps2 hostOps2_sub hostOps2_fresh (afterFeat m)) ]

/-- The last thread state: every unscoped buffer at the last contents, the generator register at some state. -/
abbrev atLast (c : Dev nD) : sProp 𝕄 := iprop(StableHlo.held (c : Thread nD τ) (Pipeline.ucRefs τ sig) (atEnd m c) ∗ ∃ r, prngReg c r)

/-- The last segment's state is the last thread state beside the core owing nothing. -/
theorem last_state (c : Dev nD) :
    (iprop(StableHlo.held (c : Thread nD τ) (Pipeline.ucRefs τ sig) (atEnd m c) ∗ riding c) : sProp 𝕄)
      ⊢ iprop(atLast m c ∗ ∃ W, owes (c : Thread nD τ) (0 : CellTallies nD τ sig Unit) W) := by
  iintro ⟨Hh, Hp, HO⟩
  isplitl [Hh Hp]
  · isplitl [Hh]; · iexact Hh
    iexact Hp
  iexact HO

set_option maxHeartbeats 1000000 in
set_option backward.isDefEq.respectTransparency.types false in
/-- The run: from any memory with zero counters the program terminates, every unscoped buffer at the last contents and
    every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = atEnd m c b) ∧ r.2.sem = fun _ => 0) :=
  Pipeline.θ_run_regions_kit_sems (pcfgs (F := F)) adm (pdats m) () cellOf_inj emb₁ defs₀ 𝒱₀ L lv m ρ main (segments m)
    (fun c Q => by
      rewrite [main_chain c, Pipeline.Seg.run_eq_chain,
        show (segments m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ riding c)) (Tₙ := atLast m)
    (hch := ⟨fun _ => .rfl, fun _ => .rfl, fun _ => .rfl, fun _ => .rfl, fun _ => .rfl, last_state m⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h hz => ⟨h, funext fun g => hz g (.inr (regions_no_unscoped g.2))⟩)

/-! ## The arguments end as launched -/

/-- @main's arguments. -/
abbrev argRefs : List (Ref sig .tc) := [main_arg0, main_arg1, main_arg2, main_arg3, main_arg4, main_arg5]

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host operation writes and no pass has among its arrays ends as launched. -/
theorem atEnd_kept (c : Dev nD) (b : Ref sig .tc) (h0 : b ∉ hostOps0_W) (h1 : b ∉ hostOps1_W) (h2 : b ∉ hostOps2_W)
    (hr : ∀ w, Pipeline.arrRef spec0 w ≠ b) (hf : ∀ w, Pipeline.arrRef spec1 w ≠ b) :
    atEnd m c (Proc.devRef .tc b) = m ((c : Thread nD τ).loc b) := by
  unfold atEnd
  rw [StableHlo.after_of_writes_sub hostOps2 _ hostOps2_writes h2, afterFeat_of_ne m c b hf, beforeFeat,
    StableHlo.after_of_writes_sub hostOps1 _ hostOps1_writes h1, afterRank_of_ne m c b hr, V1_of m c b h0]

/-- Every argument ends as launched. -/
theorem atEnd_args (c : Dev nD) : ∀ a ∈ argRefs, atEnd m c (Proc.devRef .tc a) = m ((c : Thread nD τ).loc a) := fun a ha =>
  have h : ∀ a ∈ argRefs, a ∉ hostOps0_W ∧ a ∉ hostOps1_W ∧ a ∉ hostOps2_W ∧ (∀ w, Pipeline.arrRef spec0 w ≠ a) ∧ ∀ w, Pipeline.arrRef spec1 w ≠ a := by
    decide +kernel
  have h := h a ha
  atEnd_kept m c a h.1 h.2.1 h.2.2.1 h.2.2.2.1 h.2.2.2.2

/-- The frame: the program terminates with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have e : ∀ a ∈ argRefs, r.2.mem ((c : Thread nD τ).loc a) = m ((c : Thread nD τ).loc a) := fun a ha =>
      (h.1 c _ (mem_uc a (by revert ha; revert a; decide +kernel))).trans (atEnd_args m c a ha)
    ⟨e _ (by decide), e _ (by decide), e _ (by decide), e _ (by decide), e _ (by decide), e _ (by decide)⟩, h.2⟩) (run m ρ)

end Cert.KernelIdeal.Run

end
-- ==== Proof.SameText.lean ====
/- The kernel and its idealization are one text: no operation was rewritten, so what is proved of the idealization at any
   floats is proved of the kernel. -/
module

public import proofs.«01_k».proof.Proof.Run
public import proofs.«01_k».proof.Proof.Gen.Kernel.Regions

@[expose] public section

set_option maxRecDepth 100000
set_option maxHeartbeats 4000000

noncomputable section

namespace Cert.SameText

open Idealize.ShloMosaic Idealize.ShloMosaic.TcCoe Idealize.SL.Sem

variable {F : FTy → Type} [FloatOps F]

/-- The two kernel bodies are the same on both sides. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

/-- So are the definitions around them, -/
theorem defs_eq : Cert.Kernel.defs (F := F) = Cert.KernelIdeal.defs (F := F) :=
  congrArg (Pipeline.defs (Cert.KernelIdeal.pcfgs (F := F))) bodies_eq

/-- and @main. -/
theorem main_eq : Cert.Kernel.main (F := F) = Cert.KernelIdeal.main (F := F) := rfl

/-- The kernel's frame. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact Cert.KernelIdeal.Run.frame (F := F) m g

end Cert.SameText

end
-- ==== Proof.HostTerms.lean ====
/- The host lines of the kernel: what the buffers that the two passes read, and the results, hold, as terms of the arguments. -/
module

public import proofs.«01_k».proof.Proof.Gen.KernelIdeal.Launch
public import Idealize.ShloMosaic.Lib.StableHlo.RunRead
public import Idealize.ShloMosaic.Lib.StableHlo.ReadAt

@[expose] public section

set_option maxRecDepth 16384

noncomputable section

namespace Cert.KernelIdeal.Host

open Cert.KernelIdeal Cert.KernelIdeal.Gen
open Idealize.ShloMosaic Idealize.ShloMosaic.TcCoe

variable {F : FTy → Type} [FloatOps F]

/-- A vector of one word per edge. -/
def fill (w : BitVec 32) : IVec S800000 32 := broadcastInDim S800000 ![] bcast_S_S800000 (constantI S_ 32 w)

/-- The indices `v` as a gather takes them: a negative one counts from the end of `n` entries. -/
def wrapped (n : BitVec 32) (v : IVec S800000 32) : IVec S800000x1 32 :=
  broadcastInDim S800000x1 ![0] bcast_S800000_S800000x1_0 (select (cmpi .slt v (fill 0#32)) (addi v (fill n)) v)

/-- The nodes the edges leave. -/
def nodeIn (a4 : IVec S2x800000 32) : IVec S800000 32 :=
  shapeCast S800000 (extractStridedSlice S1x800000 ![0, 0] a4 slices_S2x800000_S1x800000_0_0) shapeCasts_S1x800000_S800000

/-- The nodes the edges enter. -/
def nodeOut (a4 : IVec S2x800000 32) : IVec S800000 32 :=
  shapeCast S800000 (extractStridedSlice S1x800000 ![1, 0] a4 slices_S2x800000_S1x800000_1_0) shapeCasts_S1x800000_S800000

/-- One number per node, looked up at the edges' nodes `v`. -/
def perNode (x : IVec S50000 32) (v : IVec S800000 32) : IVec S800000 32 :=
  Host.gather gather_S50000_S800000x1_S800000_n_0_n_n_0_1_1 x (wrapped 50000#32 v)

/-- One number per residue, looked up at the edges' residues `v`. -/
def perResidue (x : IVec S12500 32) (v : IVec S800000 32) : IVec S800000 32 :=
  Host.gather gather_S12500_S800000x1_S800000_n_0_n_n_0_1_1 x (wrapped 12500#32 v)

/-- The positions of the edges' nodes `v`. -/
def position (x : FVec F S50000x3 .f32) (v : IVec S800000 32) : FVec F S800000x3 .f32 :=
  Host.gather gather_S50000x3_S800000x1_S800000x3_1_0_n_n_0_1_13 x (wrapped 50000#32 v)

/-- How many edges carry each label. -/
def edgeHist (k : IVec S800000 32) : IVec S16 32 :=
  Host.scatter scatter_S16_S800000x1_S800000_n_0_0_1 IntOp.addi (broadcastInDim S16 ![] bcast_S_S16 (constantI S_ 32 0#32))
    (wrapped 16#32 (maxsi (broadcastInDim S800000 ![] bcast_S_S800000 (id (constantI S_ 32 0#32))) k)) (fill 1#32)

/-- How many nodes carry each label. -/
def nodeHist (k : IVec S50000 32) : IVec S16 32 :=
  Host.scatter scatter_S16_S50000x1_S50000_n_0_0_1 IntOp.addi (broadcastInDim S16 ![] bcast_S_S16 (constantI S_ 32 0#32))
    (broadcastInDim S50000x1 ![0] bcast_S50000_S50000x1_0
      (select (cmpi .slt (maxsi (broadcastInDim S50000 ![] bcast_S_S50000 (id (constantI S_ 32 0#32))) k)
          (broadcastInDim S50000 ![] bcast_S_S50000 (constantI S_ 32 0#32)))
        (addi (maxsi (broadcastInDim S50000 ![] bcast_S_S50000 (id (constantI S_ 32 0#32))) k)
          (broadcastInDim S50000 ![] bcast_S_S50000 (constantI S_ 32 16#32)))
        (maxsi (broadcastInDim S50000 ![] bcast_S_S50000 (id (constantI S_ 32 0#32))) k)))
    (broadcastInDim S50000 ![] bcast_S_S50000 (constantI S_ 32 1#32))

/-- The sums of the entries before each entry. -/
def startsOf (h : IVec S16 32) : IVec S16 32 :=
  subi (Host.reduceWindow IntOp.addi ![16] ![1] ![15] ![0] h (broadcastInDim S_ ![] bcast_S_S_ (constantI S_ 32 0#32))
    reduceWindows_S16_S16_w16s1p15_0 h_S_) h

/-- A word vector with its entries moved to the positions `p`. -/
def moved (p x : IVec S800000 32) : IVec S800000 32 :=
  Host.scatter scatter_S800000_S800000x1_S800000_n_0_0_1 (fun _ b => b) (fill 0#32) (wrapped 800000#32 p) x

/-- A float vector with its entries moved to the positions `p`. -/
def movedF (p : IVec S800000 32) (x : FVec F S800000 .f32) : FVec F S800000 .f32 :=
  Host.scatter scatter_S800000_S800000x1_S800000_n_0_0_1 (fun _ b => b)
    (broadcastInDim S800000 ![] bcast_S_S800000 (constant S_ .f32 0x00000000#32)) (wrapped 800000#32 p) x

/-- The sequence distance, capped. -/
def seqDist (r s : IVec S800000 32) : IVec S800000 32 :=
  minsi (broadcastInDim S800000 ![] bcast_S_S800000 (id (constantI S_ 32 10#32)))
    (maxsi (broadcastInDim S800000 ![] bcast_S_S800000 (id (constantI S_ 32 0#32))) (absi (subi r s)))

variable (V : Valuation τ sig (Elt F))

/-- What the line before the rank pass leaves: the edges' ends, the counts per label, the starts of the labels' runs, and the
    labels and starts as the rank pass takes them. -/
theorem before_rank :
    StableHlo.after hostOps0 V main_call0_v1 = nodeIn (V main_arg4)
    ∧ StableHlo.after hostOps0 V main_call0_v3 = nodeOut (V main_arg4)
    ∧ StableHlo.after hostOps0 V main_v0_3 = edgeHist (perNode (V main_arg3) (nodeIn (V main_arg4)))
    ∧ StableHlo.after hostOps0 V main_call0_v34 = startsOf (edgeHist (perNode (V main_arg3) (nodeIn (V main_arg4))))
    ∧ StableHlo.after hostOps0 V main_call0_v32 = startsOf (nodeHist (V main_arg3))
    ∧ StableHlo.after hostOps0 V main_call0_v35
      = shapeCast S500x1x1600 (perNode (V main_arg3) (nodeIn (V main_arg4))) shapeCasts_S800000_S500x1x1600
    ∧ StableHlo.after hostOps0 V main_call0_v36
      = shapeCast S1x1x16 (startsOf (edgeHist (perNode (V main_arg3) (nodeIn (V main_arg4))))) shapeCasts_S16_S1x1x16 := by
  refine ⟨?_, ?_, ?_, ?_, ?_, ?_, ?_⟩ <;>
  · after_reads_simp
    simp -implicitDefEqProofs only [StableHlo.TRef.toBuf, StableHlo.TRef.ofBuf, cast_cast, cast_eq]
    try clean_types
    simp only [startsOf, edgeHist, nodeHist, perNode, nodeIn, nodeOut, wrapped, fill]
    try rfl

/-- The ranks as one vector. -/
def flat (p : IVec S500x1x1600 32) : IVec S800000 32 := shapeCast S800000 p shapeCasts_S500x1x1600_S800000

/-- One coordinate of the position differences. -/
def coord0 (d : FVec F S800000x3 .f32) : FVec F S800000 .f32 :=
  shapeCast S800000 (extractStridedSlice S800000x1 ![0, 0] d slices_S800000x3_S800000x1_0_0) shapeCasts_S800000x1_S800000
/-- The second coordinate. -/
def coord1 (d : FVec F S800000x3 .f32) : FVec F S800000 .f32 :=
  shapeCast S800000 (extractStridedSlice S800000x1 ![0, 1] d slices_S800000x3_S800000x1_0_1) shapeCasts_S800000x1_S800000
/-- The third coordinate. -/
def coord2 (d : FVec F S800000x3 .f32) : FVec F S800000 .f32 :=
  shapeCast S800000 (extractStridedSlice S800000x1 ![0, 2] d slices_S800000x3_S800000x1_0_2) shapeCasts_S800000x1_S800000

/-- A vector over the edges as the feature pass takes it. -/
def blocked {α : Type} (x : S800000.Idx → α) : S500x1x1600.Idx → α := shapeCast S500x1x1600 x shapeCasts_S800000_S500x1x1600

/-- What the line between the two passes leaves: every column of words moved to the ranks. -/
theorem between_words :
    StableHlo.after hostOps1 V main_call0_v92 = moved (flat (V main_call0_v37)) (V main_call0_v1)
    ∧ StableHlo.after hostOps1 V main_call0_v100 = moved (flat (V main_call0_v37)) (V main_call0_v3)
    ∧ StableHlo.after hostOps1 V main_call0_v108 = moved (flat (V main_call0_v37)) (V main_arg5)
    ∧ StableHlo.after hostOps1 V main_call0_v163
      = blocked (moved (flat (V main_call0_v37)) (perResidue (V main_arg2) (perNode (V main_arg1) (V main_call0_v1))))
    ∧ StableHlo.after hostOps1 V main_call0_v164
      = blocked (moved (flat (V main_call0_v37)) (perResidue (V main_arg2) (perNode (V main_arg1) (V main_call0_v3))))
    ∧ StableHlo.after hostOps1 V main_call0_v165 = blocked (moved (flat (V main_call0_v37)) (V main_arg5))
    ∧ StableHlo.after hostOps1 V main_call0_v166 = blocked (moved (flat (V main_call0_v37))
        (seqDist (perNode (V main_arg1) (V main_call0_v1)) (perNode (V main_arg1) (V main_call0_v3))))
    ∧ StableHlo.after hostOps1 V main_call0_v170 = shapeCast S1x1x16 (V main_call0_v34) shapeCasts_S16_S1x1x16
    ∧ StableHlo.after hostOps1 V main_call0_v171 = shapeCast S1x1x16 (V main_call0_v32) shapeCasts_S16_S1x1x16 := by
  refine ⟨?_, ?_, ?_, ?_, ?_, ?_, ?_, ?_, ?_⟩ <;>
  · after_reads_simp
    try simp -implicitDefEqProofs only [StableHlo.TRef.toBuf, StableHlo.TRef.ofBuf, cast_cast, cast_eq]
    try clean_types
    try simp only [blocked, moved, flat, perResidue, perNode, seqDist, wrapped, fill]
    try rfl

/-- What the line between the two passes leaves: the three coordinates of the position differences moved to the ranks. -/
theorem between_floats :
    StableHlo.after hostOps1 V main_call0_v167 = blocked (movedF (flat (V main_call0_v37))
      (coord0 (subf (position (V main_arg0) (V main_call0_v1)) (position (V main_arg0) (V main_call0_v3)))))
    ∧ StableHlo.after hostOps1 V main_call0_v168 = blocked (movedF (flat (V main_call0_v37))
      (coord1 (subf (position (V main_arg0) (V main_call0_v1)) (position (V main_arg0) (V main_call0_v3)))))
    ∧ StableHlo.after hostOps1 V main_call0_v169 = blocked (movedF (flat (V main_call0_v37))
      (coord2 (subf (position (V main_arg0) (V main_call0_v1)) (position (V main_arg0) (V main_call0_v3))))) := by
  refine ⟨?_, ?_, ?_⟩ <;>
  · after_reads_simp
    simp -implicitDefEqProofs only [StableHlo.TRef.toBuf, StableHlo.TRef.ofBuf, cast_cast, cast_eq]
    try clean_types
    try simp only [blocked, movedF, flat, coord0, coord1, coord2, position, wrapped, fill]
    try rfl

/-- Three columns of words side by side. -/
def columns (x y z : IVec S800000 32) : IVec S800000x3 32 :=
  concatenate S800000x3 1 [⟨S800000x1, broadcastInDim S800000x1 ![0] bcast_S800000_S800000x1_0 x⟩,
    ⟨S800000x1, broadcastInDim S800000x1 ![0] bcast_S800000_S800000x1_0 y⟩,
    ⟨S800000x1, broadcastInDim S800000x1 ![0] bcast_S800000_S800000x1_0 z⟩]
    concatenates_S800000x1_S800000x1_S800000x1_S800000x3_d1

/-- What the last line leaves: the edge list and the offsets. -/
theorem after_feat :
    StableHlo.after hostOps2 V main_v0_0 = columns (V main_call0_v92) (V main_call0_v100) (V main_call0_v108)
    ∧ StableHlo.after hostOps2 V main_v0_2 = flat (V main_call0_v172_1) := by
  refine ⟨?_, ?_⟩ <;>
  · after_reads_simp
    try simp -implicitDefEqProofs only [StableHlo.TRef.toBuf, StableHlo.TRef.ofBuf, cast_cast, cast_eq]
    try clean_types
    try simp only [columns, flat]
    try rfl

end Cert.KernelIdeal.Host
-- ==== Proof.Sorting.lean ====
/- A counting sort's rank, on natural keys: the number of smaller keys anywhere plus the number of equal keys in earlier
   positions. It is a permutation of the positions, and the stable sort by the key alone undoes it. -/
module

public import Idealize.ShloMosaic.Lib.SortFacts
public import Idealize.ShloMosaic.Lib.SortPrefix
public import Idealize.ShloMosaic.Lib.Routing.Count
public import Mathlib.Data.Fintype.EquivFin

@[expose] public section

namespace Cert.KernelIdeal.Count

open Idealize.ShloMosaic

/-- The rank of position `e` among the `n` positions with keys `k`. -/
def rank (n : ℕ) (k : ℕ → ℕ) (e : ℕ) : ℕ := Nat.count (fun a => k a < k e) n + Nat.count (fun a => k a = k e) e

/-- The keys smaller than `g` and those equal to it are the keys smaller than `g + 1`. -/
theorem count_lt_add_eq (k : ℕ → ℕ) (g n : ℕ) :
    Nat.count (fun a => k a < g) n + Nat.count (fun a => k a = g) n = Nat.count (fun a => k a < g + 1) n := by
  induction n with
  | zero => simp
  | succ n ih =>
    simp only [Nat.count_succ]
    by_cases h1 : k n < g
    · rw [if_pos h1, if_neg (by omega), if_pos (by omega)]; omega
    · by_cases h2 : k n = g
      · rw [if_neg h1, if_pos h2, if_pos (by omega)]; omega
      · rw [if_neg h1, if_neg h2, if_neg (by omega)]; omega

/-- Fewer keys are below a smaller bound. -/
theorem count_lt_mono (k : ℕ → ℕ) {g g' : ℕ} (h : g ≤ g') (n : ℕ) :
    Nat.count (fun a => k a < g) n ≤ Nat.count (fun a => k a < g') n :=
  Nat.count_mono_left fun _ _ ha => lt_of_lt_of_le ha h

/-- A rank stays below the end of its key's run. -/
theorem rank_lt_next (n : ℕ) (k : ℕ → ℕ) (e : ℕ) (he : e < n) :
    rank n k e < Nat.count (fun a => k a < k e + 1) n := by
  have h1 := count_lt_add_eq k (k e) n
  have h2 : Nat.count (fun a => k a = k e) (e + 1) ≤ Nat.count (fun a => k a = k e) n :=
    Nat.count_monotone _ (by omega)
  rw [Nat.count_succ, if_pos rfl] at h2
  unfold rank
  omega

/-- A rank is a position. -/
theorem rank_lt (n : ℕ) (k : ℕ → ℕ) (e : ℕ) (he : e < n) : rank n k e < n :=
  lt_of_lt_of_le (rank_lt_next n k e he) (Nat.count_le _)

/-- Ranks follow the keys, and the positions among equal keys. -/
theorem rank_mono (n : ℕ) (k : ℕ → ℕ) (a b : ℕ) (ha : a < n) (h : k a < k b ∨ (k a = k b ∧ a < b)) :
    rank n k a < rank n k b := by
  rcases h with h | ⟨h, hab⟩
  · refine lt_of_lt_of_le (rank_lt_next n k a ha) (le_trans (count_lt_mono k (show k a + 1 ≤ k b from h) n) ?_)
    exact Nat.le_add_right _ _
  · have h2 : Nat.count (fun x => k x = k b) (a + 1) ≤ Nat.count (fun x => k x = k b) b :=
      Nat.count_monotone _ hab
    rw [Nat.count_succ, if_pos h] at h2
    unfold rank
    rw [h]
    omega

/-- The rank as a map of the positions. -/
def rankF (n : ℕ) (k : ℕ → ℕ) (e : Fin n) : Fin n := ⟨rank n k e, rank_lt n k e e.isLt⟩

/-- Two positions of one rank are one position. -/
theorem rankF_injective (n : ℕ) (k : ℕ → ℕ) : Function.Injective (rankF n k) := by
  intro a b hab
  have h : rank n k a = rank n k b := congrArg Fin.val hab
  apply Fin.ext
  rcases Nat.lt_trichotomy (k a) (k b) with h1 | h1 | h1
  · have := rank_mono n k a b a.isLt (Or.inl h1); omega
  · rcases Nat.lt_trichotomy a.val b.val with h2 | h2 | h2
    · have := rank_mono n k a b a.isLt (Or.inr ⟨h1, h2⟩); omega
    · exact h2
    · have := rank_mono n k b a b.isLt (Or.inr ⟨h1.symm, h2⟩); omega
  · have := rank_mono n k b a b.isLt (Or.inl h1); omega

/-- A relation and its refinement by position sort an ascending list alike: the sort inserts from the back, so what it
    inserts stands before everything it is compared with. -/
theorem stableSort_refine {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort by the key alone puts position `e` at its rank. -/
theorem sortedFrom_rank (n : ℕ) (k : ℕ → ℕ) (B : Fin n → Fin n → Bool)
    (hB : ∀ a b : Fin n, B a b = decide (k a < k b)) (e : Fin n) : sortedFrom B (rankF n k e) = e := by
  have hT : StrictTotalBefore fun a b : Fin n =>
      decide (k a < k b) || (decide (k a = k b) && decide (a < b)) :=
    StrictTotalBefore.of_key_then_position (fun x y : ℕ => decide (x < y)) (fun a : Fin n => k a)
      (fun a => by simp) (fun a b c h1 h2 => by simp only [decide_eq_true_eq] at *; omega)
      (fun a b => by simp only [decide_eq_true_eq]; omega)
  have hs : sortedFrom B = sortedFrom fun a b : Fin n =>
      decide (k a < k b) || (decide (k a = k b) && decide (a < b)) := by
    funext i
    unfold sortedFrom
    rw [List.get_of_eq (show sortPositions n B = sortPositions n (fun a b : Fin n =>
        decide (k a < k b) || (decide (k a = k b) && decide (a < b))) from
      stableSort_refine _ _ (fun a b hab => by simp [hB, not_lt.mpr hab.le]) _ (List.pairwise_lt_finRange n))]
    rfl
  have hbij : Function.Bijective (rankF n k) := (rankF_injective n k).bijective_of_finite
  let E : Fin n ≃ Fin n := Equiv.ofBijective (rankF n k) hbij
  have hE : ∀ i, rankF n k (E.symm i) = i := fun i => E.apply_symm_apply i
  have hv : ∀ i, rank n k (E.symm i) = i.val := fun i => congrArg Fin.val (hE i)
  have key := hT.sortedFrom_eq_of_prefix (le_refl n) (fun i => E.symm i) E.symm.injective
    (fun i j hij => by
      by_contra hne
      have h := Bool.eq_true_of_not_eq_false hne
      simp only [Bool.or_eq_true, Bool.and_eq_true, decide_eq_true_eq] at h
      have := rank_mono n k (E.symm j) (E.symm i) (E.symm j).isLt h
      rw [hv, hv] at this
      have hij' : i.val < j.val := hij
      omega)
    (fun i p hp => absurd (E.symm_apply_apply p) (hp (E p))) (rankF n k e)
  rw [hs]
  exact key.trans (E.symm_apply_apply e)

end Cert.KernelIdeal.Count
-- ==== Proof.HostCount.lean ====
/- Counting on the host lines: a scatter that adds ones is a histogram, a running sum of a histogram counts the smaller entries. -/
module

public import proofs.«01_k».proof.Proof.Sorting
public import Idealize.ShloMosaic.Lib.Routing.Ops
public import Idealize.ShloMosaic.Lib.Routing.OpsPair
public import Idealize.ShloMosaic.Lib.Routing.OpsSet
public import Idealize.ShloMosaic.Lib.Routing.OpsOne
public import Idealize.ShloMosaic.Lib.WordCmp

@[expose] public section

noncomputable section

namespace Cert.KernelIdeal.Count

open Idealize.ShloMosaic Idealize.ShloMosaic.Routing

/-- Adding one at each hit of a list adds the number of hits. -/
theorem foldl_hits {ι : Type} (P : ι → Prop) [DecidablePred P] (l : List ι) (w : BitVec 32) :
    l.foldl (fun a n => if P n then IntOp.addi a 1#32 else a) w = w + BitVec.ofNat 32 (l.countP fun n => decide (P n)) := by
  induction l generalizing w with
  | nil => simp
  | cons n l ih =>
    rw [List.foldl_cons, ih, List.countP_cons]
    by_cases h : P n
    · simp only [h, if_true, decide_true]
      rw [show IntOp.addi w 1#32 = w + 1#32 from rfl, show BitVec.ofNat 32 (List.countP (fun n => decide (P n)) l + 1)
        = BitVec.ofNat 32 (List.countP (fun n => decide (P n)) l) + 1#32 from BitVec.ofNat_add .., BitVec.add_assoc,
        BitVec.add_comm 1#32]
    · simp [h]

/-- A scatter of `N` ones into `M` zeros counts, at each entry, the indices equal to it. -/
theorem histogram {M N : ℕ} (d : ScatterDims (shape1 M) (shape2 N 1) (shape1 N)) (hw : ∀ i, d.window (ValueIdx.ix1 i) 0 = 0)
    (hs : ∀ i (idx : IVec (shape2 N 1) 32), d.start (ValueIdx.ix1 i) idx 0 = (idx (ValueIdx.ix2 i 0)).toInt)
    (x0 : IVec (shape1 M) 32) (hx0 : ∀ i, x0 i = 0#32) (idx : IVec (shape2 N 1) 32) (upd : IVec (shape1 N) 32)
    (hupd : ∀ i, upd i = 1#32) (k : ℕ → ℕ) (hk : ∀ i : Fin N, idx (ValueIdx.ix2 i 0) = BitVec.ofNat 32 (k i))
    (hk31 : ∀ i : Fin N, k i < 2 ^ 31) (x : Fin M) :
    Host.scatter d IntOp.addi x0 idx upd (ValueIdx.ix1 x) = BitVec.ofNat 32 (Nat.count (fun i => k i = x.val) N) := by
  have hl : ∀ n : Fin (shape1 N).numel, d.resultIdx? ((shape1 N).rowMajor.symm n) idx = some (ValueIdx.ix1 x) ↔ k n.val = x.val := by
    intro n
    rw [symm1, resultIdx?_ix1, hs, hw, hk, StableHlo.Predicate.toInt_ofNat_small _ (hk31 _)]
    simp only [Fin.val_cast]
    omega
  rw [scatter_at, hx0]
  refine (congrArg (fun f => List.foldl f 0#32 (List.finRange (shape1 N).numel)) (funext fun a => funext fun n =>
    (if_congr (hl n) (by rw [hupd]) rfl : _ = if k n.val = x.val then IntOp.addi a 1#32 else a))).trans ?_
  rw [foldl_hits (fun n : Fin (shape1 N).numel => k n.val = x.val), countP_finRange _ (fun i => k i = x.val), numel1, BitVec.zero_add]

/-- The entries counted value by value are the entries below the bound. -/
theorem sum_count_lt (k : ℕ → ℕ) (n g : ℕ) :
    ((List.range g).map fun i => Nat.count (fun a => k a = i) n).sum = Nat.count (fun a => k a < g) n := by
  induction g with
  | zero => simp
  | succ g ih => rw [List.range_succ, List.map_append, List.sum_append, ih]; simp [count_lt_add_eq]

end Cert.KernelIdeal.Count
-- ==== Proof.HostVals.lean ====
/- The host terms read at an index. -/
module

public import proofs.«01_k».proof.Proof.HostTerms
public import proofs.«01_k».proof.Proof.HostCount
public import Idealize.ShloMosaic.Lib.Pointwise
public import Idealize.ShloMosaic.Lib.Pointwise.IndexBridge

@[expose] public section

noncomputable section

namespace Cert.KernelIdeal.Host

open Cert.KernelIdeal Cert.KernelIdeal.Gen
open Idealize.ShloMosaic Idealize.ShloMosaic.TcCoe

variable {F : FTy → Type} [FloatOps F]

/-- An index word as a gather takes it: a negative one counts from the end of `n` entries. -/
def wrapWord (n w : BitVec 32) : BitVec 32 := Scalar.select (IntOp.cmpi .slt w 0#32) (IntOp.addi w n) w

/-- The entry of a table of `N` that an index word reads. -/
def pick (N : ℕ) (hN : 0 < N) (w : BitVec 32) : Fin N := ⟨min (wrapWord (BitVec.ofNat 32 N) w).toInt.toNat (N - 1), by omega⟩

/-- A word below half the range is left as it is. -/
theorem wrapWord_ofNat (n : BitVec 32) (a : ℕ) (h : a < 2 ^ 31) : wrapWord n (BitVec.ofNat 32 a) = BitVec.ofNat 32 a := by
  unfold wrapWord
  exact Routing.wrap_of_lt _ _ (by rw [BitVec.toNat_ofNat, Nat.mod_eq_of_lt (by omega)]; exact h)

/-- A number below the table's length reads its own entry. -/
theorem pick_ofNat (N : ℕ) (hN : 0 < N) (j : Fin N) (h : N ≤ 2 ^ 31) : pick N hN (BitVec.ofNat 32 j.val) = j := by
  have hj := j.isLt
  apply Fin.ext
  show min (wrapWord (BitVec.ofNat 32 N) (BitVec.ofNat 32 j.val)).toInt.toNat (N - 1) = j.val
  rw [wrapWord_ofNat _ _ (by omega), StableHlo.Predicate.toInt_ofNat_small _ (by omega)]
  omega

/-- The wrapped indices, entry by entry. -/
theorem wrapped_at (n : BitVec 32) (v : IVec S800000 32) (p : Fin 800000) : wrapped n v (ix2 p 0) = wrapWord n (v (ix1 p)) := by
  pointwise [wrapped, fill, wrapWord]

/-- A number per node, at an edge. -/
theorem perNode_at (x : IVec S50000 32) (v : IVec S800000 32) (p : Fin 800000) :
    perNode x v (ix1 p) = x (ix1 (pick 50000 (by decide) (v (ix1 p)))) := by
  unfold perNode Host.gather
  refine congrArg x (funext fun a => Fin.ext ?_)
  match a with
  | ⟨0, _⟩ =>
    show min (wrapped 50000#32 v _).toInt.toNat _ = min (wrapWord 50000#32 (v (ix1 p))).toInt.toNat 49999
    rw [← wrapped_at]
    congr 4
    funext b
    match b with
    | ⟨0, _⟩ => rfl
    | ⟨1, _⟩ => rfl

/-- A number per residue, at an edge. -/
theorem perResidue_at (x : IVec S12500 32) (v : IVec S800000 32) (p : Fin 800000) :
    perResidue x v (ix1 p) = x (ix1 (pick 12500 (by decide) (v (ix1 p)))) := by
  unfold perResidue Host.gather
  refine congrArg x (funext fun a => Fin.ext ?_)
  match a with
  | ⟨0, _⟩ =>
    show min (wrapped 12500#32 v _).toInt.toNat _ = min (wrapWord 12500#32 (v (ix1 p))).toInt.toNat 12499
    rw [← wrapped_at]
    congr 4
    funext b
    match b with
    | ⟨0, _⟩ => rfl
    | ⟨1, _⟩ => rfl

/-- A coordinate of a node's position, at an edge. -/
theorem position_at (x : FVec F S50000x3 .f32) (v : IVec S800000 32) (p : Fin 800000) (c : Fin 3) :
    position x v (ix2 p c) = x (ix2 (pick 50000 (by decide) (v (ix1 p))) c) := by
  unfold position Host.gather
  refine congrArg x (funext fun a => Fin.ext ?_)
  match a with
  | ⟨0, _⟩ =>
    show min (wrapped 50000#32 v _).toInt.toNat _ = min (wrapWord 50000#32 (v (ix1 p))).toInt.toNat 49999
    rw [← wrapped_at]
    congr 4
    funext b
    match b with
    | ⟨0, _⟩ => rfl
    | ⟨1, _⟩ => rfl
  | ⟨1, _⟩ =>
    show 0 + 0 + _ = _
    simp only [Nat.zero_add]
    rfl

/-- The edges' ends. -/
theorem nodeIn_at (a4 : IVec S2x800000 32) (p : Fin 800000) : nodeIn a4 (ix1 p) = a4 (ix2 0 p) := by
  pointwise [nodeIn]
/-- The node an edge enters. -/
theorem nodeOut_at (a4 : IVec S2x800000 32) (p : Fin 800000) : nodeOut a4 (ix1 p) = a4 (ix2 1 p) := by
  pointwise [nodeOut]

/-- The counts of the labels: how many edges carry each. -/
theorem edgeHist_at (x : IVec S800000 32) (k : ℕ → ℕ) (hk : ∀ e : Fin 800000, x (ix1 e) = BitVec.ofNat 32 (k e))
    (hk16 : ∀ e : Fin 800000, k e < 16) (g : Fin 16) :
    edgeHist x (ix1 g) = BitVec.ofNat 32 (Nat.count (fun e => k e = g.val) 800000) := by
  have hmax : ∀ a, a < 16 → IntOp.maxsi 0#32 (BitVec.ofNat 32 a) = BitVec.ofNat 32 a := by decide
  have hm : ∀ e : Fin 800000, (maxsi (broadcastInDim S800000 ![] bcast_S_S800000 (id (constantI S_ 32 0#32))) x) (ix1 e)
      = BitVec.ofNat 32 (k e) := fun e => by
    refine Eq.trans ?_ (hmax _ (hk16 e))
    rw [← hk e]
    pointwise
    rfl
  unfold edgeHist
  rw [ix1_eq_valueIdx]
  refine Count.histogram scatter_S16_S800000x1_S800000_n_0_0_1 (fun _ => rfl) (fun i idx => ?_) _ (fun _ => rfl) _ _ (fun _ => rfl) k
    (fun e => ?_) (fun e => lt_trans (hk16 e) (by decide)) g
  · show (idx _).toInt = _
    congr 2
    funext b
    match b with
    | ⟨0, _⟩ => rfl
    | ⟨1, _⟩ => rfl
  · rw [← ix2_eq_valueIdx, wrapped_at, hm e, wrapWord_ofNat _ _ (lt_trans (hk16 e) (by decide))]

/-- The running sums, each less its own entry: the sums of the entries before. -/
theorem startsOf_at (h : IVec S16 32) (c : ℕ → ℕ) (hc : ∀ g : Fin 16, h (ix1 g) = BitVec.ofNat 32 (c g)) (g : Fin 16) :
    startsOf h (ix1 g) = BitVec.ofNat 32 ((List.range g.val).map c).sum := by
  have hcum := Routing.cumsum1 (N := 16) (Nm1 := 15) rfl h c (fun i => by rw [← ix1_eq_valueIdx]; exact hc i)
    (broadcastInDim S_ ![] bcast_S_S_ (constantI S_ 32 0#32)) rfl reduceWindows_S16_S16_w16s1p15_0 h_S_ g
  rw [← ix1_eq_valueIdx] at hcum
  show IntOp.subi (Host.reduceWindow IntOp.addi ![16] ![1] ![15] ![0] h _ _ _ (ix1 g)) (h (ix1 g)) = _
  rw [hcum, hc g, List.range_succ, List.map_append, List.sum_append]
  show BitVec.ofNat 32 (_ + (c g.val + 0)) - BitVec.ofNat 32 (c g.val) = _
  rw [Nat.add_zero, BitVec.ofNat_add, BitVec.add_sub_cancel]

/-- The starts of the labels' runs: how many edges carry a smaller label. -/
theorem estart_at (x : IVec S800000 32) (k : ℕ → ℕ) (hk : ∀ e : Fin 800000, x (ix1 e) = BitVec.ofNat 32 (k e))
    (hk16 : ∀ e : Fin 800000, k e < 16) (g : Fin 16) :
    startsOf (edgeHist x) (ix1 g) = BitVec.ofNat 32 (Nat.count (fun e => k e < g.val) 800000) := by
  rw [startsOf_at _ (fun i => Nat.count (fun e => k e = i) 800000) (edgeHist_at x k hk hk16) g, Count.sum_count_lt]

/-- A scatter of every entry to its own position: entry `e` is found at the position it was sent to. -/
theorem scatter_perm {α : Type} (x0 x : S800000.Idx → α) (p : IVec S800000 32) (r : Fin 800000 → Fin 800000)
    (hr : Function.Injective r) (hp : ∀ e, p (ix1 e) = BitVec.ofNat 32 (r e).val) (e : Fin 800000) :
    Host.scatter scatter_S800000_S800000x1_S800000_n_0_0_1 (fun _ b => b) x0 (wrapped 800000#32 p) x (ix1 (r e)) = x (ix1 e) := by
  have hi : ∀ i : Fin 800000, (wrapped 800000#32 p (ValueIdx.ix2 i (0 : Fin 1))).toInt = ((r i).val : Int) := fun i => by
    have h31 : (r i).val < 2 ^ 31 := lt_trans (r i).isLt (by norm_num)
    rw [← ix2_eq_valueIdx, wrapped_at, hp i, wrapWord_ofNat _ _ h31, StableHlo.Predicate.toInt_ofNat_small _ h31]
  rw [ix1_eq_valueIdx]
  refine (Routing.scatter_set_signed scatter_S800000_S800000x1_S800000_n_0_0_1 rfl rfl rfl x0 _ x (r e) (x (ix1 e))
    (fun i h => ?_)).1 ⟨e, hi e⟩
  rw [hi] at h
  have : i = e := hr (Fin.ext (by omega))
  rw [this, ← ix1_eq_valueIdx]

/-- A moved word is found at the position it was moved to. -/
theorem moved_at (p x : IVec S800000 32) (r : Fin 800000 → Fin 800000)
    (hr : Function.Injective r) (hp : ∀ e, p (ix1 e) = BitVec.ofNat 32 (r e).val) (e : Fin 800000) :
    moved p x (ix1 (r e)) = x (ix1 e) := scatter_perm _ x p r hr hp e

/-- A moved float is found at the position it was moved to. -/
theorem movedF_at (p : IVec S800000 32) (x : FVec F S800000 .f32) (r : Fin 800000 → Fin 800000)
    (hr : Function.Injective r) (hp : ∀ e, p (ix1 e) = BitVec.ofNat 32 (r e).val) (e : Fin 800000) :
    movedF p x (ix1 (r e)) = x (ix1 e) := scatter_perm _ x p r hr hp e

/-- The coordinates of the differences. -/
theorem coord0_at (d : FVec F S800000x3 .f32) (e : Fin 800000) : coord0 d (ix1 e) = d (ix2 e 0) := by pointwise [coord0]
/-- The second coordinate, at an edge. -/
theorem coord1_at (d : FVec F S800000x3 .f32) (e : Fin 800000) : coord1 d (ix1 e) = d (ix2 e 1) := by pointwise [coord1]
/-- The third coordinate, at an edge. -/
theorem coord2_at (d : FVec F S800000x3 .f32) (e : Fin 800000) : coord2 d (ix1 e) = d (ix2 e 2) := by pointwise [coord2]

/-- The capped distance of two residues. -/
def seqWord (a b : BitVec 32) : BitVec 32 := IntOp.minsi 10#32 (IntOp.maxsi 0#32 (IntOp.absi (IntOp.subi a b)))

/-- The capped distances, entry by entry. -/
theorem seqDist_at (x y : IVec S800000 32) (p : Fin 800000) : seqDist x y (ix1 p) = seqWord (x (ix1 p)) (y (ix1 p)) := by
  pointwise [seqDist]
  rfl

/-- A blocked vector's entry. -/
theorem blocked_at {α : Type} (x : S800000.Idx → α) (b : Fin 500) (r : Fin 1600) :
    blocked x (ix3 b 0 r) = x (ix1 ⟨b.val * 1600 + r.val, by have := b.isLt; have := r.isLt; omega⟩) := by
  pointwise [blocked]

/-- A flattened vector's entry. -/
theorem flat_at (x : IVec S500x1x1600 32) (p : Fin 800000) :
    flat x (ix1 p) = x (ix3 ⟨p.val / 1600, by have := p.isLt; omega⟩ 0 ⟨p.val % 1600, Nat.mod_lt _ (by decide)⟩) := by
  pointwise [flat]

/-- The three columns, entry by entry. -/
theorem columns_at (x y z : IVec S800000 32) (p : Fin 800000) (c : Fin 3) :
    columns x y z (ix2 p c) = if c.val < 1 then x (ix1 p) else if c.val - 1 < 1 then y (ix1 p) else z (ix1 p) := by
  pointwise [columns]
  rfl

end Cert.KernelIdeal.Host
-- ==== Proof.RefTerms.lean ====
/- The reference's results as terms of its arguments, over the words the kernel's host terms name too, and those terms read
   at an index. -/
module

public import proofs.«01_k».proof.Proof.Gen.ReferenceIdeal.Run
public import proofs.«01_k».proof.Proof.HostVals
public import proofs.«01_k».proof.Proof.Sorting
public import Idealize.ShloMosaic.Lib.IdealHost
public import Idealize.ShloMosaic.Lib.ReduceAll
public import Idealize.ShloMosaic.Lib.Routing.OpsOne

@[expose] public section

set_option maxRecDepth 16384

noncomputable section

namespace Cert.ReferenceIdeal.Terms

open Cert.ReferenceIdeal Cert.ReferenceIdeal.Gen Cert.ReferenceIdeal.Value
open Idealize.ShloMosaic Idealize.ShloMosaic.TcCoe Idealize.ShloMosaic.StableHlo
open Cert.KernelIdeal.Host (wrapped wrapWord pick nodeIn nodeOut perNode perResidue position edgeHist nodeHist startsOf columns seqDist seqWord fill)

/-- The edges in the order of their labels, a stable sort. -/
def order (key : IVec S800000 32) : IVec S800000 32 := (Host.sort2 S800000 0 comparator_i32_i32_d0 key (iotaInDim S800000 32 0)).2
/-- The entries of `x` at the positions `o`. -/
def taken (o x : IVec S800000 32) : IVec S800000 32 :=
  Host.gather gather_S800000_S800000x1_S800000_n_0_n_n_0_1_1 x (wrapped 800000#32 o)
/-- The starts of the labels' runs: the counts moved on by one place, the first set to zero, and summed. -/
def runStarts (h : IVec S16 32) : IVec S16 32 :=
  Host.reduceWindow IntOp.addi ![16] ![1] ![15] ![0] (Host.scatter scatter_S16_S1_S__n_0_0_0 (fun _ b => b) (concatenate S16 0 [⟨S1, (extractStridedSlice S1 ![15] h slices_S16_S1_15)⟩, ⟨S15, (extractStridedSlice S15 ![0] h slices_S16_S15_0)⟩] concatenates_S1_S15_S16_d0) (broadcastInDim S1 ![] bcast_S_S1 (constantI S_ 32 0#32)) (constantI S_ 32 0#32)) (broadcastInDim S_ ![] bcast_S_S_ (constantI S_ 32 0#32)) reduceWindows_S16_S16_w16s1p15_0 h_S_
/-- The run each position lies in: a one at every start, summed. -/
def runAt (s : IVec S16 32) : IVec S800000 32 :=
  subi (Host.reduceWindow IntOp.addi ![800000] ![1] ![799999] ![0] (Host.scatter scatter_S800000_S16x1_S16_n_0_0_1 IntOp.addi (broadcastInDim S800000 ![] bcast_S_S800000 (constantI S_ 32 0#32)) (broadcastInDim S16x1 ![0] bcast_S16_S16x1_0 (select (cmpi .slt s (broadcastInDim S16 ![] bcast_S_S16 (constantI S_ 32 0#32))) (addi s (broadcastInDim S16 ![] bcast_S_S16 (constantI S_ 32 800000#32))) s)) (broadcastInDim S16 ![] bcast_S_S16 (constantI S_ 32 1#32))) (broadcastInDim S_ ![] bcast_S_S_ (constantI S_ 32 0#32)) reduceWindows_S800000_S800000_w800000s1p799999_0 h_S_) (broadcastInDim S800000 ![] bcast_S_S800000 (constantI S_ 32 1#32))
/-- The table `n` looked up at the runs `p`, a run outside the table given the smallest word. -/
def lookedUp (n : IVec S16 32) (p : IVec S800000 32) : IVec S800000 32 :=
  select (Host.reduce IntOp.andi (andi (cmpi .sge (wrapped 16#32 p) (broadcastInDim S800000x1 ![] bcast_S_S800000x1 (constantI S_ 32 0#32))) (cmpi .sle (wrapped 16#32 p) (broadcastInDim S800000x1 ![0, 1] bcast_S1x1_S800000x1_0_1 (broadcastInDim S1x1 ![1] bcast_S1_S1x1_1 (constantI S1 32 15#32))))) (constantI S_ 1 1#1) reducesTo_S800000x1_S800000_d1 h_S_) (Host.gather gather_S16_S800000x1_S800000_n_0_n_n_0_1_1 n (wrapped 16#32 p)) (broadcastInDim S800000 ![] bcast_S_S800000 (constantI S_ 32 2147483648#32))
/-- The features: four blocks of one-hot columns and the distance. -/
def features (tin tout rel seq : IVec S800000 32) (d : FVec Ideal S800000x3 .f32) : FVec Ideal S800000x59 .f32 :=
  concatenate S800000x59 1
    [⟨S800000x20, uitofp .f32 (cmpi .eq (broadcastInDim S800000x20 ![0, 1] bcast_S800000x1_S800000x20_0_1 (broadcastInDim S800000x1 ![0] bcast_S800000_S800000x1_0 tin)) (broadcastInDim S800000x20 ![0, 1] bcast_S1x20_S800000x20_0_1 (iotaInDim S1x20 32 1)))⟩,
     ⟨S800000x20, uitofp .f32 (cmpi .eq (broadcastInDim S800000x20 ![0, 1] bcast_S800000x1_S800000x20_0_1 (broadcastInDim S800000x1 ![0] bcast_S800000_S800000x1_0 tout)) (broadcastInDim S800000x20 ![0, 1] bcast_S1x20_S800000x20_0_1 (iotaInDim S1x20 32 1)))⟩,
     ⟨S800000x7, uitofp .f32 (cmpi .eq (broadcastInDim S800000x7 ![0, 1] bcast_S800000x1_S800000x7_0_1 (broadcastInDim S800000x1 ![0] bcast_S800000_S800000x1_0 rel)) (broadcastInDim S800000x7 ![0, 1] bcast_S1x7_S800000x7_0_1 (iotaInDim S1x7 32 1)))⟩,
     ⟨S800000x11, uitofp .f32 (cmpi .eq (broadcastInDim S800000x11 ![0, 1] bcast_S800000x1_S800000x11_0_1 (broadcastInDim S800000x1 ![0] bcast_S800000_S800000x1_0 seq)) (broadcastInDim S800000x11 ![0, 1] bcast_S1x11_S800000x11_0_1 (iotaInDim S1x11 32 1)))⟩,
     ⟨S800000x1, broadcastInDim S800000x1 ![0] bcast_S800000_S800000x1_0 (Host.sqrt (addf (Host.reduceAdd (mulf d d) (constant S_ .f32 0x00000000#32) reducesTo_S800000x3_S800000_d1 h_S_) (broadcastInDim S800000 ![] bcast_S_S800000 (constant S_ .f32 0x2B8CBCCC#32))))⟩]
    concatenates_S800000x20_S800000x20_S800000x7_S800000x11_S800000x1_S800000x59_d1

section
variable (V : Valuation τ sig (Elt Ideal))

/-- The edges' labels. -/
def keys : IVec S800000 32 := perNode (V main_arg3) (nodeIn (V main_arg4))
/-- The ends of the edges in the order of their labels. -/
def tails : IVec S800000 32 := taken (order (keys V)) (nodeIn (V main_arg4))
/-- The nodes the sorted edges enter. -/
def heads : IVec S800000 32 := taken (order (keys V)) (nodeOut (V main_arg4))
/-- Their relations. -/
def rels : IVec S800000 32 := taken (order (keys V)) (V main_arg5)

/-- The reference's sorted tails. -/
theorem v18_eq : res_main_v18 V = tails V := rfl
/-- The reference's sorted heads. -/
theorem v25_eq : res_main_v25 V = heads V := rfl
/-- The reference's sorted relations. -/
theorem v32_eq : res_main_v32 V = rels V := rfl
/-- The reference's counts of edges per label. -/
theorem v42_eq : res_main_v42 V = edgeHist (keys V) := rfl
/-- The reference's counts of nodes per label. -/
theorem v52_eq : res_main_v52 V = nodeHist (V main_arg3) := rfl
/-- The reference's starts of the runs. -/
theorem v58_eq : res_main_v58 V = runStarts (edgeHist (keys V)) := by unfold res_main_v58; rw [v42_eq]; rfl
/-- The reference's run of every position. -/
theorem v70_eq : res_main_v70 V = runAt (runStarts (edgeHist (keys V))) := by unfold res_main_v70; rw [v58_eq]; rfl
/-- The runs as the reference's lookup takes them. -/
theorem call7_v5_eq : res_main_call7_v5 V = wrapped 16#32 (runAt (runStarts (edgeHist (keys V)))) := by
  unfold res_main_call7_v5; rw [v70_eq]; rfl
/-- The residues at the sorted tails. -/
theorem v78_eq : res_main_v78 V = perNode (V main_arg1) (tails V) := by unfold res_main_v78; rw [v18_eq]; rfl
/-- The residues at the sorted heads. -/
theorem v85_eq : res_main_v85 V = perNode (V main_arg1) (heads V) := by unfold res_main_v85; rw [v25_eq]; rfl
/-- The differences of the sorted positions. -/
theorem v117_eq : res_main_v117 V = (subf (position (V main_arg0) (tails V)) (position (V main_arg0) (heads V)) : FVec Ideal S800000x3 .f32) := by
  unfold res_main_v117; rw [v18_eq, v25_eq]; rfl

/-- The four results. -/
def edges : IVec S800000x3 32 := columns (tails V) (heads V) (rels V)
/-- The features. -/
def feats : FVec Ideal S800000x59 .f32 :=
  features (perResidue (V main_arg2) (perNode (V main_arg1) (tails V))) (perResidue (V main_arg2) (perNode (V main_arg1) (heads V))) (rels V)
    (seqDist (perNode (V main_arg1) (tails V)) (perNode (V main_arg1) (heads V)))
    (subf (position (V main_arg0) (tails V)) (position (V main_arg0) (heads V)))
/-- The offsets. -/
def offs : IVec S800000 32 := lookedUp (startsOf (nodeHist (V main_arg3))) (runAt (runStarts (edgeHist (keys V))))

end

/-- The reference's run leaves the four results, its arguments unchanged. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v132) = edges (launchContents m c)
      ∧ r.2.mem ((c.tc : Thread nD τ).loc main_v128) = feats (launchContents m c)
      ∧ r.2.mem ((c.tc : Thread nD τ).loc main_v71) = offs (launchContents m c)
      ∧ r.2.mem ((c.tc : Thread nD τ).loc main_v42) = edgeHist (keys (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h1, h2, h3, h4, h5⟩ := h c
  refine ⟨h1.trans ?_, h2.trans ?_, h3.trans ?_, h4.trans (v42_eq _), h5⟩
  · rw [v18_eq, v25_eq, v32_eq]; rfl
  · rw [v78_eq, v85_eq, v32_eq, v117_eq]; rfl
  · rw [call7_v5_eq, v52_eq]; rfl

end Cert.ReferenceIdeal.Terms

end
-- ==== Proof.RankPay.lean ====
/- What the rank pass stores, at the ideal values: every float it handles is a whole number, so the blocks are read as counts. -/
module

public import proofs.«01_k».proof.Proof.Gen.KernelIdeal.Skeleton
public import Idealize.ShloMosaic.Lib.Pointwise
public import Idealize.ShloMosaic.Lib.WordCmp
public import Idealize.ShloMosaic.Lib.Routing.Ops
public import Idealize.ShloMosaic.Lib.Routing.Count
public import Idealize.ShloMosaic.Lib.Routing.FromKeys

@[expose] public section

noncomputable section

namespace Cert.KernelIdeal.Count

open Cert.KernelIdeal Cert.KernelIdeal.Gen
open Idealize.ShloMosaic

/-- A truth value widened to a word and read as a float: one or zero. -/
theorem sitofp_bool (p : Prop) [Decidable p] :
    (FloatOps.sitofp (F := Ideal) .f32 (BitVec.setWidth 32 (BitVec.ofBool (decide p))) : EReal) = if p then 1 else 0 := by
  by_cases h : p
  · simp only [h, decide_true, if_true]; show (((BitVec.setWidth 32 (BitVec.ofBool true)).toInt : ℝ) : EReal) = 1
    rw [show (BitVec.setWidth 32 (BitVec.ofBool true)).toInt = 1 from by decide]; norm_num
  · simp only [h, decide_false, if_false]; show (((BitVec.setWidth 32 (BitVec.ofBool false)).toInt : ℝ) : EReal) = 0
    rw [show (BitVec.setWidth 32 (BitVec.ofBool false)).toInt = 0 from by decide]; norm_num

/-- A natural number's word read as a float is the number. -/
theorem sitofp_nat (n : ℕ) (h : n < 2 ^ 31) : (FloatOps.sitofp (F := Ideal) .f32 (BitVec.ofNat 32 n) : EReal) = (n : EReal) := by
  show (((BitVec.ofNat 32 n).toInt : ℝ) : EReal) = (n : EReal)
  rw [StableHlo.Predicate.toInt_ofNat_small _ h]
  norm_num

/-- A natural number read as a float converts to its word. -/
theorem fptosi_nat (n : ℕ) (h : n < 2 ^ 31) : FloatOps.fptosi (F := Ideal) (φ := .f32) 32 (n : EReal) = BitVec.ofNat 32 n := by
  show Ideal.fptosi 32 (((n : ℝ)) : EReal) = _
  unfold Ideal.fptosi
  have e : Ideal.toIntClamped (-(2 ^ (32 - 1) : Nat)) ((2 ^ (32 - 1) : Nat) - 1) (((n : ℝ)) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  rw [e]
  exact BitVec.ofInt_natCast 32 n

/-- A sum of zeros and ones over the first `N` numbers is a count. -/
theorem sum_count (N : ℕ) (p : ℕ → Prop) [DecidablePred p] : (∑ r : Fin N, if p r.val then (1 : EReal) else 0) = (Nat.count p N : EReal) := by
  rw [← Routing.card_filter_fin N p, Finset.natCast_card_filter]

/-- The one-hot block: one where the edge's key is the column, else zero. -/
theorem onehot_apply (v : Vec Ideal S1x1x1600 .i32) (r : Fin 1600) (g : Fin 16) :
    k0_pay3 (F := Ideal) v (ix2 r g) = if v (ix3 0 0 r) = BitVec.ofNat 32 g.val then 1 else 0 := by
  pointwise [k0_pay3]
  rw [WordCmp.cmpi_eq_eq, sitofp_bool]

/-- The running counts gain the block's column sums. -/
theorem pay5_apply (v : Vec Ideal S1x1x1600 .i32) (row : Vec Ideal S1x16 .f32) (g : Fin 16) :
    k0_pay1 (k0_pay5 (F := Ideal) v row) (ix2 0 g) = row (ix2 0 g) + ∑ r : Fin 1600, k0_pay3 (F := Ideal) v (ix2 r g) := by
  pointwise [k0_pay1, k0_pay5]

/-- The rank of the block's edge: the edges before it in the block with its key, the running count of its key and its
    key's start, picked from the sixteen columns by the one-hot row. -/
theorem pay4_apply (v : Vec Ideal S1x1x1600 .i32) (row : Vec Ideal S1x16 .f32) (st : Vec Ideal S1x1x16 .i32) (r : Fin 1600) :
    k0_pay4 (F := Ideal) v row st (ix3 0 0 r)
      = FloatOps.fptosi (F := Ideal) (φ := .f32) 32 (∑ g : Fin 16, ((∑ r' : Fin 1600,
          FloatOps.sitofp (F := Ideal) .f32 (BitVec.setWidth 32 (IntOp.cmpi .slt (BitVec.ofNat 32 r'.val) (BitVec.ofNat 32 r.val))) * k0_pay3 (F := Ideal) v (ix2 r' g))
            + (row (ix2 0 g) + FloatOps.sitofp (F := Ideal) .f32 (st (ix3 0 0 g)))) * k0_pay3 (F := Ideal) v (ix2 r g)) := by
  pointwise [k0_pay4]

variable (v : Vec Ideal S1x1x1600 .i32) (k : ℕ → ℕ) (hk : ∀ r : Fin 1600, v (ix3 0 0 r) = BitVec.ofNat 32 (k r.val)) (hk16 : ∀ r < 1600, k r < 16)

include hk hk16 in
/-- The one-hot block over keys that are numbers. -/
theorem onehot_nat (r : Fin 1600) (g : Fin 16) : k0_pay3 (F := Ideal) v (ix2 r g) = if k r.val = g.val then 1 else 0 := by
  rw [onehot_apply, hk]
  have h1 := hk16 r.val r.isLt
  have h2 := g.isLt
  have : (BitVec.ofNat 32 (k r.val) = BitVec.ofNat 32 g.val) ↔ k r.val = g.val := by
    constructor
    · intro h
      have := congrArg BitVec.toNat h
      simp only [BitVec.toNat_ofNat] at this
      omega
    · intro h; rw [h]
  simp only [this]

include hk hk16 in
/-- The running counts, as counts. -/
theorem row_nat (row : Vec Ideal S1x16 .f32) (R : ℕ → ℕ) (hR : ∀ g : Fin 16, row (ix2 0 g) = (R g.val : EReal)) (g : Fin 16) :
    k0_pay1 (k0_pay5 (F := Ideal) v row) (ix2 0 g) = ((R g.val + Nat.count (fun r => k r = g.val) 1600 : ℕ) : EReal) := by
  rw [pay5_apply, hR, Nat.cast_add, ← sum_count 1600 (fun r => k r = g.val)]
  exact congrArg _ (Finset.sum_congr rfl fun r _ => onehot_nat v k hk hk16 r g)

include hk hk16 in
/-- The ranks, as counts. -/
theorem rank_nat (row : Vec Ideal S1x16 .f32) (R : ℕ → ℕ) (hR : ∀ g : Fin 16, row (ix2 0 g) = (R g.val : EReal))
    (st : Vec Ideal S1x1x16 .i32) (E : ℕ → ℕ) (hE : ∀ g : Fin 16, st (ix3 0 0 g) = BitVec.ofNat 32 (E g.val)) (hE31 : ∀ g < 16, E g < 2 ^ 31)
    (r : Fin 1600) (hlt : E (k r.val) + R (k r.val) + Nat.count (fun r' => k r' = k r.val) r.val < 2 ^ 31) :
    k0_pay4 (F := Ideal) v row st (ix3 0 0 r)
      = BitVec.ofNat 32 (E (k r.val) + R (k r.val) + Nat.count (fun r' => k r' = k r.val) r.val) := by
  have hr := r.isLt
  have inner : ∀ g : Fin 16, (∑ r' : Fin 1600,
      FloatOps.sitofp (F := Ideal) .f32 (BitVec.setWidth 32 (IntOp.cmpi .slt (BitVec.ofNat 32 r'.val) (BitVec.ofNat 32 r.val))) * k0_pay3 (F := Ideal) v (ix2 r' g) : EReal)
        = ((Nat.count (fun r' => k r' = g.val) r.val : ℕ) : EReal) := by
    intro g
    have e : ∀ r' : Fin 1600, (FloatOps.sitofp (F := Ideal) .f32 (BitVec.setWidth 32 (IntOp.cmpi .slt (BitVec.ofNat 32 r'.val) (BitVec.ofNat 32 r.val))) * k0_pay3 (F := Ideal) v (ix2 r' g) : EReal)
        = if (r'.val < r.val ∧ k r'.val = g.val) then 1 else 0 := by
      intro r'
      have hr' := r'.isLt
      rw [onehot_nat v k hk hk16, WordCmp.cmpi_slt_ofNat (by omega) (by omega), sitofp_bool]
      by_cases h1 : r'.val < r.val <;> by_cases h2 : k r'.val = g.val <;> simp [h1, h2]
    rw [Finset.sum_congr rfl fun r' _ => e r', sum_count 1600 (fun r' => r' < r.val ∧ k r' = g.val)]
    rw [Routing.count_and_lt (fun r' => k r' = g.val) r.val 1600 (by omega)]
  rw [pay4_apply]
  have hkr := hk16 r.val r.isLt
  have outer : (∑ g : Fin 16, ((∑ r' : Fin 1600,
          FloatOps.sitofp (F := Ideal) .f32 (BitVec.setWidth 32 (IntOp.cmpi .slt (BitVec.ofNat 32 r'.val) (BitVec.ofNat 32 r.val))) * k0_pay3 (F := Ideal) v (ix2 r' g))
            + (row (ix2 0 g) + FloatOps.sitofp (F := Ideal) .f32 (st (ix3 0 0 g)))) * k0_pay3 (F := Ideal) v (ix2 r g) : EReal)
      = ((E (k r.val) + R (k r.val) + Nat.count (fun r' => k r' = k r.val) r.val : ℕ) : EReal) := by
    rw [Finset.sum_eq_single (⟨k r.val, hkr⟩ : Fin 16)]
    · rw [inner, onehot_nat v k hk hk16, if_pos rfl, hR, hE, sitofp_nat _ (hE31 _ hkr), mul_one, ← Nat.cast_add, ← Nat.cast_add]
      exact congrArg _ (by show Nat.count (fun r' => k r' = k r.val) r.val + (R (k r.val) + E (k r.val)) = _; omega)
    · intro g _ hg
      rw [onehot_nat v k hk hk16, if_neg fun h => hg (Fin.ext h.symm), mul_zero]
    · intro h; exact absurd (Finset.mem_univ _) h
  rw [outer, fptosi_nat _ hlt]

end Cert.KernelIdeal.Count

end
-- ==== Proof.RankArr.lean ====
/- The array the rank pass leaves, over keys that are numbers below sixteen: every edge's entry is its rank. -/
module

public import proofs.«01_k».proof.Proof.RankRegion
public import proofs.«01_k».proof.Proof.RankPay
public import proofs.«01_k».proof.Proof.Sorting
public import Idealize.ShloMosaic.Lib.Pipeline.Value
public import Idealize.ShloMosaic.Lib.Pipeline.ValueKit.Basic

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window)

section
variable {F : FTy → Type} [FloatOps F]
variable (V : (c : Dev nD) → (b : Ref sig .tc) → Buf (Elt F) ((c : Thread nD τ).loc b))

/-- Point `t` of the rank pass takes key block `t`, -/
theorem key_idx : ∀ t : Fin cfg0.N, win0_0.index t ⟨0, by decide⟩ = t.val :=
  (by decide +kernel : ∀ t : Fin grid0.N, win0_0.index t ⟨0, by decide⟩ = t.val)
/-- and leaves rank block `t`. -/
theorem rank_idx : ∀ t : Fin cfg0.N, win0_2.index t ⟨0, by decide⟩ = t.val :=
  (by decide +kernel : ∀ t : Fin grid0.N, win0_2.index t ⟨0, by decide⟩ = t.val)

/-- Two points' rank blocks share no entry. -/
theorem rank_disjoint : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h =>
    hne (Fin.ext (by rw [← rank_idx t, ← rank_idx t']; exact congrFun h _))

/-- The key block of a point, entry by entry. -/
theorem key_at (c : Dev nD) (b : Fin 500) (r : Fin 1600) :
    blk0 V c 0 (b.cast N_0.symm) (ix3 0 0 r) = V c main_call0_v35 (ix3 b 0 r) := by
  refine congrArg (V c main_call0_v35) (funext fun a => Fin.ext ?_)
  match a with
  | ⟨0, _⟩ =>
    show win0_0.index (b.cast N_0.symm) ⟨0, _⟩ * 1 + 1 * 0 = b.val
    rw [key_idx]
    show b.val * 1 + 1 * 0 = b.val
    omega
  | ⟨1, _⟩ => rfl
  | ⟨2, _⟩ =>
    show 0 * 1600 + 1 * r.val = r.val
    omega

/-- The starts a point reads, entry by entry. -/
theorem start_at (c : Dev nD) (t : Fin cfg0.N) (g : Fin 16) :
    blk0 V c 1 t (ix3 0 0 g) = V c main_call0_v36 (ix3 0 0 g) := by
  refine congrArg (V c main_call0_v36) (funext fun a => Fin.ext ?_)
  match a with
  | ⟨0, _⟩ => rfl
  | ⟨1, _⟩ => rfl
  | ⟨2, _⟩ =>
    show 0 * 16 + 1 * g.val = g.val
    omega

/-- The array the pass leaves, entry by entry. -/
theorem rank_arr (c : Dev nD) (b : Fin 500) (r : Fin 1600) :
    (dat0 V c).arrAt 2 cfg0.N (ix3 b 0 r)
      = rankOut (blk0 V c 0 (b.cast N_0.symm)) (prevRow V c b.val) (blk0 V c 1 (b.cast N_0.symm)) (ix3 0 0 r) := by
  have h := (dat0 V c).read_blk_arrAt_eq_flushed 2 rank_disjoint cfg0.N (b.cast N_0.symm) (b.cast N_0.symm).isLt
    (flush0_2 (b.cast N_0.symm))
  have h' := congrFun h (ix3 0 0 r)
  refine Eq.trans (congrArg ((dat0 V c).arrAt 2 cfg0.N) (funext fun a => Fin.ext ?_)) (h'.trans ?_)
  · match a with
    | ⟨0, _⟩ =>
      show b.val = win0_2.index (b.cast N_0.symm) ⟨0, _⟩ * 1 + 1 * 0
      rw [rank_idx]
      show b.val = b.val * 1 + 1 * 0
      omega
    | ⟨1, _⟩ => rfl
    | ⟨2, _⟩ =>
      show r.val = 0 * 1600 + 1 * r.val
      omega
  · show (dat0 V c).after 2 _ _ = _
    rw [after0_2]
    rfl

/-- The stores and loads of whole blocks taken away. -/
theorem rankOut_eq (x0 : Vec F S1x1x1600 .i32) (row : Vec F S1x16 .f32) (x1 : Vec F S1x1x16 .i32) :
    rankOut x0 row x1 = k0_pay4 x0 row x1 := by
  have h3 : ∀ a : Fin 3, (![0, 0, 0] : Fin 3 → ℕ) a = 0 := by decide
  unfold rankOut
  rw [View.canon_cons_unit_lit _ _ _ h3, View.ld_unit_lit _ _ h3, View.ld_unit_lit _ _ h3]
/-- The running counts after a block, as the body's own expression. -/
theorem rowNext_eq (x0 : Vec F S1x1x1600 .i32) (row : Vec F S1x16 .f32) :
    rowNext x0 row = k0_pay1 (k0_pay5 x0 row) := by
  have h3 : ∀ a : Fin 3, (![0, 0, 0] : Fin 3 → ℕ) a = 0 := by decide
  unfold rowNext
  rw [View.ld_unit_lit _ _ h3]

end

variable (V : (c : Dev nD) → (b : Ref sig .tc) → Buf (Elt Ideal) ((c : Thread nD τ).loc b)) (c : Dev nD)
  (k : ℕ → ℕ) (hk : ∀ (b : Fin 500) (r : Fin 1600), V c main_call0_v35 (ix3 b 0 r) = BitVec.ofNat 32 (k (b.val * 1600 + r.val)))
  (hk16 : ∀ e < 800000, k e < 16)

include hk hk16 in
/-- The running counts before block `t`: how many of the edges before it carry each key. -/
theorem prevRow_count (t : ℕ) (ht : t ≤ 500) (g : Fin 16) :
    prevRow V c t (ix2 0 g) = ((Nat.count (fun e => k e = g.val) (t * 1600) : ℕ) : EReal) := by
  induction t generalizing g with
  | zero =>
    show FloatOps.ofBits (F := Ideal) .f32 0#32 = _
    rw [Nat.zero_mul, Nat.count_zero, Nat.cast_zero]
    exact Ideal.ofBits_zero_f32
  | succ t ih =>
    have hN : t < cfg0.N := by rw [show cfg0.N = 500 from N_0]; omega
    have e : prevRow V c (t + 1) = rowNext (blk0 V c 0 ⟨t, hN⟩) (prevRow V c t) := prevRow_succ V c ⟨t, hN⟩
    rw [e, rowNext_eq]
    rw [Count.row_nat _ (fun r => k (t * 1600 + r)) (fun r => by
        rw [← hk ⟨t, by omega⟩ r]; exact key_at V c ⟨t, by omega⟩ r) (fun r hr => hk16 _ (by omega))
      _ (fun g => Nat.count (fun e => k e = g) (t * 1600)) (fun g => ih (by omega) g) g]
    rw [show (t + 1) * 1600 = t * 1600 + 1600 by omega, Nat.count_add]

include hk hk16 in
/-- Every edge's entry of the array the pass leaves is the edge's rank. -/
theorem rank_value (hE : ∀ g : Fin 16, V c main_call0_v36 (ix3 0 0 g) = BitVec.ofNat 32 (Nat.count (fun e => k e < g.val) 800000))
    (b : Fin 500) (r : Fin 1600) :
    (dat0 V c).arrAt 2 cfg0.N (ix3 b 0 r) = BitVec.ofNat 32 (Count.rank 800000 k (b.val * 1600 + r.val)) := by
  have hb := b.isLt
  have hr := r.isLt
  have e : Nat.count (fun a => k a < k (b.val * 1600 + r.val)) 800000
      + Nat.count (fun e => k e = k (b.val * 1600 + r.val)) (b.val * 1600)
      + Nat.count (fun r' => k (b.val * 1600 + r') = k (b.val * 1600 + r.val)) r.val = Count.rank 800000 k (b.val * 1600 + r.val) := by
    unfold Count.rank
    rw [Nat.count_add, Nat.add_assoc]
  have hlt := Count.rank_lt 800000 k (b.val * 1600 + r.val) (by omega)
  rw [rank_arr, rankOut_eq]
  rw [Count.rank_nat _ (fun r => k (b.val * 1600 + r)) (fun r' => by rw [← hk b r']; exact key_at V c b r')
    (fun r' hr' => hk16 _ (by omega))
    _ (fun g => Nat.count (fun e => k e = g) (b.val * 1600)) (fun g => prevRow_count V c k hk hk16 b.val (by omega) g)
    _ (fun g => Nat.count (fun e => k e < g) 800000) (fun g => (start_at V c _ g).trans (hE g))
    (fun g _ => lt_of_le_of_lt (Nat.count_le _) (by norm_num)) r
    (by show _ + _ + Nat.count (fun r' => k (b.val * 1600 + r') = k (b.val * 1600 + r.val)) r.val < _
        rw [e]; exact lt_trans hlt (by norm_num))]
  exact congrArg _ e

end Cert.KernelIdeal.Run

end
-- ==== Proof.FeatPay.lean ====
/- The stores of the feature pass, entry by entry, at the ideal values. -/
module

public import proofs.«01_k».proof.Proof.FeatRegion
public import Idealize.ShloMosaic.Lib.Pipeline.Value
public import Idealize.ShloMosaic.Lib.Pipeline.ValueKit.Basic
public import Idealize.ShloMosaic.Lib.Pointwise
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe

/-- The one-hot bit of a column: the column is one of the four the edge's classes name. -/
def hotBit (tin tout rel seq col : BitVec 32) : BitVec 1 :=
  IntOp.ori (IntOp.ori (IntOp.ori (IntOp.cmpi .eq col tin) (IntOp.cmpi .eq col (IntOp.addi tout 20#32)))
    (IntOp.cmpi .eq col (IntOp.addi rel 40#32))) (IntOp.cmpi .eq col (IntOp.addi (IntOp.addi seq 40#32) 7#32))

/-- A feature of an edge: the root in the last column, a one-hot bit in the others. -/
def featWord (tin tout rel seq : BitVec 32) (dx dy dz : EReal) (col : BitVec 32) : EReal :=
  Scalar.select (IntOp.cmpi .eq col 58#32)
    (Ideal.sqrt (dx * dx + dy * dy + dz * dz + Ideal.ofBits .f32 0x2B8CBCCC#32))
    (FloatOps.sitofp (F := Ideal) .f32 (BitVec.setWidth 32 (hotBit tin tout rel seq col)))

/-- The stored features, entry by entry. -/
theorem featOut_at (x0 x1 x2 x3 : Vec Ideal S1x1x1600 .i32) (x4 x5 x6 : Vec Ideal S1x1x1600 .f32) (r : Fin 1600) (q : Fin 59) :
    featOut x0 x1 x2 x3 x4 x5 x6 (ix2 r q)
      = featWord (x0 (ix3 0 0 r)) (x1 (ix3 0 0 r)) (x2 (ix3 0 0 r)) (x3 (ix3 0 0 r)) (x4 (ix3 0 0 r)) (x5 (ix3 0 0 r)) (x6 (ix3 0 0 r))
          (BitVec.ofNat 32 q.val) := by
  have h3 : ∀ a : Fin 3, (![0, 0, 0] : Fin 3 → ℕ) a = 0 := by decide
  have h2 : ∀ a : Fin 2, (![0, 0] : Fin 2 → ℕ) a = 0 := by decide
  unfold featOut
  rw [View.canon_cons_unit_lit _ _ _ h2]
  simp only [View.ld_unit_lit (S := S1x1x1600) _ _ h3]
  pointwise [k1_pay8, k1_pay2, k1_pay3, k1_pay4, k1_pay5, k1_pay6, k1_pay7, featWord, hotBit]

/-- Words of numbers summed in any order: the word of the sum. -/
theorem fold_nat {n : ℕ} (c : Fin n → ℕ) (s : Finset (Fin n)) :
    Finset.fold IntOp.addi 0#32 (fun x => BitVec.ofNat 32 (c x)) s = BitVec.ofNat 32 (∑ x ∈ s, c x) := by
  induction s using Finset.induction_on with
  | empty => rfl
  | insert a s ha ih =>
    rw [Finset.fold_insert ha, ih, Finset.sum_insert ha, BitVec.ofNat_add]
    rfl

/-- One word picked out of a sum: the others are zero. -/
theorem fold_pick {n : ℕ} (v : Fin n → BitVec 32) (G : Fin n) (s : Finset (Fin n)) :
    Finset.fold IntOp.addi 0#32 (fun x => if x = G then v x else 0#32) s = if G ∈ s then v G else 0#32 := by
  induction s using Finset.induction_on with
  | empty => rfl
  | insert a s ha ih =>
    rw [Finset.fold_insert ha, ih]
    by_cases h : a = G
    · subst h
      rw [if_pos rfl, if_neg ha, if_pos (Finset.mem_insert_self _ _)]
      exact BitVec.add_zero _
    · rw [if_neg h]
      have : (G ∈ insert a s) ↔ G ∈ s := by rw [Finset.mem_insert]; exact or_iff_right (fun e => h e.symm)
      simp only [this]
      exact BitVec.zero_add _

/-- How many of the sixteen starts are at or before position `j`. -/
def runsTo (E : ℕ → ℕ) (j : ℕ) : ℕ := Nat.count (fun g => E g ≤ j) 16

/-- The stored offsets, entry by entry. -/
theorem offOut_at (i : grid1.Coords) (x7 x8 : Vec Ideal S1x1x16 .i32) (r : Fin 1600) :
    offOut i x7 x8 (ix3 0 0 r)
      = Finset.fold IntOp.addi 0#32 (fun g : Fin 16 => Scalar.select (IntOp.cmpi .eq (BitVec.ofNat 32 g.val) (IntOp.subi
          (Finset.fold IntOp.addi 0#32 (fun g' : Fin 16 => BitVec.setWidth 32 (IntOp.cmpi .sge
            (IntOp.addi (Scalar.muli (BitVec.ofNat 32 (i 0).val) 1600#32) (BitVec.ofNat 32 r.val)) (x7 (ix3 0 0 g')))) Finset.univ) 1#32))
            (x8 (ix3 0 0 g)) 0#32) Finset.univ := by
  have h3 : ∀ a : Fin 3, (![0, 0, 0] : Fin 3 → ℕ) a = 0 := by decide
  unfold offOut
  rw [View.canon_cons_unit_lit _ _ _ h3]
  simp only [View.ld_unit_lit (S := S1x1x16) _ _ h3]
  pointwise [k1_pay1, k1_pay9, k1_pay10, k1_pay11]

/-- The stored offsets over starts that are numbers: the second table's entry at the run the position lies in. -/
theorem offOut_nat (i : grid1.Coords) (x7 x8 : Vec Ideal S1x1x16 .i32) (E : ℕ → ℕ) (hE : ∀ g : Fin 16, x7 (ix3 0 0 g) = BitVec.ofNat 32 (E g.val))
    (hE31 : ∀ g < 16, E g < 2 ^ 31) (r : Fin 1600) (hi : (i 0).val < 500) (G : Fin 16)
    (hG : runsTo E ((i 0).val * 1600 + r.val) = G.val + 1) : offOut i x7 x8 (ix3 0 0 r) = x8 (ix3 0 0 G) := by
  have hr := r.isLt
  have hj : IntOp.addi (Scalar.muli (BitVec.ofNat 32 (i 0).val) 1600#32) (BitVec.ofNat 32 r.val) = BitVec.ofNat 32 ((i 0).val * 1600 + r.val) := by
    rw [BitVec.ofNat_add, BitVec.ofNat_mul]
    rfl
  have hbit : ∀ g : Fin 16, BitVec.setWidth 32 (IntOp.cmpi .sge (BitVec.ofNat 32 ((i 0).val * 1600 + r.val)) (x7 (ix3 0 0 g)))
      = BitVec.ofNat 32 (if E g.val ≤ (i 0).val * 1600 + r.val then 1 else 0) := fun g => by
    rw [hE, WordCmp.cmpi_sge_ofNat (by omega) (hE31 _ g.isLt)]
    by_cases h : E g.val ≤ (i 0).val * 1600 + r.val <;> simp [h]
  have hsum : (∑ g : Fin 16, if E g.val ≤ (i 0).val * 1600 + r.val then 1 else 0) = G.val + 1 := by
    rw [← hG, runsTo, Nat.count_eq_card_filter_range, Finset.card_filter, Finset.sum_range]
  rw [offOut_at]
  simp only [hj, hbit, fold_nat, hsum]
  have hsub : IntOp.subi (BitVec.ofNat 32 (G.val + 1)) 1#32 = BitVec.ofNat 32 G.val := by
    rw [BitVec.ofNat_add]
    exact BitVec.add_sub_cancel _ _
  have hsel : ∀ g : Fin 16, Scalar.select (IntOp.cmpi .eq (BitVec.ofNat 32 g.val) (BitVec.ofNat 32 G.val)) (x8 (ix3 0 0 g)) 0#32
      = if g = G then x8 (ix3 0 0 g) else 0#32 := fun g => by
    have h1 := g.isLt
    have h2 := G.isLt
    rw [WordCmp.cmpi_eq_ofNat (by omega) (by omega), WordCmp.select_decide]
    simp only [Fin.ext_iff]
  rw [hsub]
  simp only [hsel]
  rw [fold_pick (fun g => x8 (ix3 0 0 g)) G, if_pos (Finset.mem_univ _)]

end Cert.KernelIdeal.Run

end
-- ==== Proof.FeatArr.lean ====
/- The two arrays the feature pass leaves, entry by entry, at the ideal values. -/
module

public import proofs.«01_k».proof.Proof.FeatPay

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window)

/-- Point `t` of the feature pass takes lane block `t`, -/
theorem lane_idx : ∀ t : Fin cfg1.N, win1_0.index t ⟨0, by decide⟩ = t.val :=
  (by decide +kernel : ∀ t : Fin grid1.N, win1_0.index t ⟨0, by decide⟩ = t.val)
/-- leaves feature block `t` -/
theorem feat_idx : ∀ t : Fin cfg1.N, win1_9.index t ⟨0, by decide⟩ = t.val :=
  (by decide +kernel : ∀ t : Fin grid1.N, win1_9.index t ⟨0, by decide⟩ = t.val)
/-- and offset block `t`. -/
theorem off_idx : ∀ t : Fin cfg1.N, win1_10.index t ⟨0, by decide⟩ = t.val :=
  (by decide +kernel : ∀ t : Fin grid1.N, win1_10.index t ⟨0, by decide⟩ = t.val)

/-- Two points' feature blocks share no entry, -/
theorem feat_disjoint : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h =>
    hne (Fin.ext (by rw [← feat_idx t, ← feat_idx t']; exact congrFun h _))
/-- and neither do two points' offset blocks. -/
theorem off_disjoint : ∀ t t' : Fin cfg1.N, (cfg1.win 10).flush t = true → (cfg1.win 10).flush t' = true → t ≠ t' →
    Disjoint ((cfg1.win 10).blk t).view.set ((cfg1.win 10).blk t').view.set :=
  fun t t' _ _ hne => (cfg1.win 10).disjoint_blk fun h =>
    hne (Fin.ext (by rw [← off_idx t, ← off_idx t']; exact congrFun h _))

/-- Where an entry of a lane block lies in its array. -/
theorem lane_emb (b : Fin 500) (r : Fin 1600) :
    ((cfg1.win 0).blk (b.cast N_1.symm)).view.emb (ix3 0 0 r) = (ix3 b 0 r : S500x1x1600.Idx) := by
  refine funext fun a => Fin.ext ?_
  match a with
  | ⟨0, _⟩ =>
    show win1_0.index (b.cast N_1.symm) ⟨0, _⟩ * 1 + 1 * 0 = b.val
    rw [lane_idx]
    show b.val * 1 + 1 * 0 = b.val
    omega
  | ⟨1, _⟩ => rfl
  | ⟨2, _⟩ =>
    show 0 * 1600 + 1 * r.val = r.val
    omega

/-- Where an entry of a table of sixteen lies in its array. -/
theorem graph_emb (t : Fin cfg1.N) (g : Fin 16) :
    ((cfg1.win 7).blk t).view.emb (ix3 0 0 g) = (ix3 0 0 g : S1x1x16.Idx) := by
  refine funext fun a => Fin.ext ?_
  match a with
  | ⟨0, _⟩ => rfl
  | ⟨1, _⟩ => rfl
  | ⟨2, _⟩ =>
    show 0 * 16 + 1 * g.val = g.val
    omega

variable (V : (c : Dev nD) → (b : Ref sig .tc) → Buf (Elt Ideal) ((c : Thread nD τ).loc b)) (c : Dev nD)

/-- The feature array the pass leaves, entry by entry. -/
theorem feat_arr (b : Fin 500) (r : Fin 1600) (q : Fin 59) :
    (dat1 V c).arrAt 9 cfg1.N (ix2 (⟨b.val * 1600 + r.val, by have := b.isLt; have := r.isLt; omega⟩ : Fin 800000) q)
      = featWord (V c main_call0_v163 (ix3 b 0 r)) (V c main_call0_v164 (ix3 b 0 r)) (V c main_call0_v165 (ix3 b 0 r))
          (V c main_call0_v166 (ix3 b 0 r)) (V c main_call0_v167 (ix3 b 0 r)) (V c main_call0_v168 (ix3 b 0 r)) (V c main_call0_v169 (ix3 b 0 r))
          (BitVec.ofNat 32 q.val) := by
  have h := (dat1 V c).read_blk_arrAt_eq_flushed 9 feat_disjoint cfg1.N (b.cast N_1.symm) (b.cast N_1.symm).isLt
    (flush1_9 (b.cast N_1.symm))
  have h' := congrFun h (ix2 r q)
  refine Eq.trans (congrArg ((dat1 V c).arrAt 9 cfg1.N) (funext fun a => Fin.ext ?_)) (h'.trans ?_)
  · match a with
    | ⟨0, _⟩ =>
      show b.val * 1600 + r.val = win1_9.index (b.cast N_1.symm) ⟨0, _⟩ * 1600 + 1 * r.val
      rw [feat_idx]
      show b.val * 1600 + r.val = b.val * 1600 + 1 * r.val
      omega
    | ⟨1, _⟩ =>
      show q.val = 0 * 59 + 1 * q.val
      omega
  · have e : (dat1 V c).flushed 9 (b.cast N_1.symm) (ix2 r q) = (dat1 V c).after 9 (b.cast N_1.symm) (ix2 r q) := rfl
    rw [e, after1_9, featOut_at]
    have l0 : blk1 V c 0 (b.cast N_1.symm) (ix3 0 0 r) = V c main_call0_v163 (ix3 b 0 r) := congrArg (V c main_call0_v163) (lane_emb b r)
    have l1 : blk1 V c 1 (b.cast N_1.symm) (ix3 0 0 r) = V c main_call0_v164 (ix3 b 0 r) := congrArg (V c main_call0_v164) (lane_emb b r)
    have l2 : blk1 V c 2 (b.cast N_1.symm) (ix3 0 0 r) = V c main_call0_v165 (ix3 b 0 r) := congrArg (V c main_call0_v165) (lane_emb b r)
    have l3 : blk1 V c 3 (b.cast N_1.symm) (ix3 0 0 r) = V c main_call0_v166 (ix3 b 0 r) := congrArg (V c main_call0_v166) (lane_emb b r)
    have l4 : blk1 V c 4 (b.cast N_1.symm) (ix3 0 0 r) = V c main_call0_v167 (ix3 b 0 r) := congrArg (V c main_call0_v167) (lane_emb b r)
    have l5 : blk1 V c 5 (b.cast N_1.symm) (ix3 0 0 r) = V c main_call0_v168 (ix3 b 0 r) := congrArg (V c main_call0_v168) (lane_emb b r)
    have l6 : blk1 V c 6 (b.cast N_1.symm) (ix3 0 0 r) = V c main_call0_v169 (ix3 b 0 r) := congrArg (V c main_call0_v169) (lane_emb b r)
    erw [l0, l1, l2, l3, l4, l5, l6]

/-- The offset array the pass leaves, entry by entry, over starts that are numbers: the second table's entry at the run
    the position lies in. -/
theorem off_arr (E : ℕ → ℕ) (hE : ∀ g : Fin 16, V c main_call0_v170 (ix3 0 0 g) = BitVec.ofNat 32 (E g.val)) (hE31 : ∀ g < 16, E g < 2 ^ 31)
    (b : Fin 500) (r : Fin 1600) (G : Fin 16) (hG : runsTo E (b.val * 1600 + r.val) = G.val + 1) :
    (dat1 V c).arrAt 10 cfg1.N (ix3 b 0 r) = V c main_call0_v171 (ix3 0 0 G) := by
  have h := (dat1 V c).read_blk_arrAt_eq_flushed 10 off_disjoint cfg1.N (b.cast N_1.symm) (b.cast N_1.symm).isLt
    (flush1_10 (b.cast N_1.symm))
  have h' := congrFun h (ix3 0 0 r)
  have hc : (grid1.coords (b.cast N_1.symm) 0).val = b.val := by
    have e0 : (grid1.coords (b.cast N_1.symm) 0).val = (b.cast N_1.symm).val / 1 % 500 := Pipeline.Grid.coords_val _ 0 (by decide) rfl
    rw [e0]
    show b.val / 1 % 500 = b.val
    have := b.isLt
    omega
  refine Eq.trans (congrArg ((dat1 V c).arrAt 10 cfg1.N) (funext fun a => Fin.ext ?_)) (h'.trans ?_)
  · match a with
    | ⟨0, _⟩ =>
      show b.val = win1_10.index (b.cast N_1.symm) ⟨0, _⟩ * 1 + 1 * 0
      rw [off_idx]
      show b.val = b.val * 1 + 1 * 0
      omega
    | ⟨1, _⟩ => rfl
    | ⟨2, _⟩ =>
      show r.val = 0 * 1600 + 1 * r.val
      omega
  · have e : (dat1 V c).flushed 10 (b.cast N_1.symm) (ix3 0 0 r) = (dat1 V c).after 10 (b.cast N_1.symm) (ix3 0 0 r) := rfl
    rw [e, after1_10]
    refine (offOut_nat _ _ _ E (fun g => ?_) hE31 r (by rw [hc]; exact b.isLt) G (by rw [hc]; exact hG)).trans ?_
    · exact (congrArg (V c main_call0_v170) (graph_emb (b.cast N_1.symm) g)).trans (hE g)
    · exact congrArg (V c main_call0_v171) (graph_emb (b.cast N_1.symm) G)

end Cert.KernelIdeal.Run

end
-- ==== Proof.RefFeat.lean ====
/- The reference's features read at an index. -/
module

public import proofs.«01_k».proof.Proof.RefTerms

@[expose] public section

set_option maxRecDepth 16384

noncomputable section

namespace Cert.ReferenceIdeal.Terms

open Cert.ReferenceIdeal Cert.ReferenceIdeal.Gen
open Idealize.ShloMosaic Idealize.ShloMosaic.TcCoe
open Cert.KernelIdeal.Host (wrapped wrapped_at wrapWord wrapWord_ofNat pick pick_ofNat)
open Cert.KernelIdeal

/-- A feature of the reference, by its column. -/
def refWord (tin tout rel seq : BitVec 32) (dx dy dz : EReal) (q : ℕ) : EReal :=
  if q < 20 then FloatOps.uitofp (F := Ideal) .f32 (IntOp.cmpi .eq tin (BitVec.ofNat 32 q))
  else if q - 20 < 20 then FloatOps.uitofp (F := Ideal) .f32 (IntOp.cmpi .eq tout (BitVec.ofNat 32 (q - 20)))
  else if q - 20 - 20 < 7 then FloatOps.uitofp (F := Ideal) .f32 (IntOp.cmpi .eq rel (BitVec.ofNat 32 (q - 20 - 20)))
  else if q - 20 - 20 - 7 < 11 then FloatOps.uitofp (F := Ideal) .f32 (IntOp.cmpi .eq seq (BitVec.ofNat 32 (q - 20 - 20 - 7)))
  else Ideal.sqrt (dx * dx + dy * dy + dz * dz + Ideal.ofBits .f32 0x2B8CBCCC#32)

/-- The features, entry by entry. -/
theorem features_at (tin tout rel seq : IVec S800000 32) (d : FVec Ideal S800000x3 .f32) (p : Fin 800000) (q : Fin 59) :
    features tin tout rel seq d (ix2 p q)
      = refWord (tin (ix1 p)) (tout (ix1 p)) (rel (ix1 p)) (seq (ix1 p)) (d (ix2 p 0)) (d (ix2 p 1)) (d (ix2 p 2)) q.val := by
  pointwise [features]
  rw [Fin.sum_univ_three]
  rfl

end Cert.ReferenceIdeal.Terms

end
-- ==== Proof.Words.lean ====
/- The words of the two programs compared: the features of one edge, and the labels the precondition bounds. -/
module

public import proofs.«01_k».proof.Proof.RankPay
public import proofs.«01_k».proof.Proof.FeatPay
public import proofs.«01_k».proof.Proof.RefFeat

@[expose] public section

noncomputable section

namespace Cert.Same

open Idealize.ShloMosaic
open Cert.KernelIdeal.Run (featWord hotBit)
open Cert.KernelIdeal.Host (seqWord)
open Cert.ReferenceIdeal.Terms (refWord)

/-- A word that is at least zero and below `n` is a number below `n`. -/
theorem label_of_range (n : ℕ) (hn : n < 2 ^ 31) (x : BitVec 32)
    (h : IntOp.andi (IntOp.cmpi .sge x 0#32) (IntOp.cmpi .slt x (BitVec.ofNat 32 n)) = 1#1) :
    x.toNat < n ∧ x = BitVec.ofNat 32 x.toNat := by
  rw [WordCmp.andi_sge_zero_slt_ofNat (by omega)] at h
  exact ⟨(WordCmp.ofBool_decide_eq_one_iff _).mp h, by simp⟩

/-- The capped distance is a number up to ten. -/
theorem seqWord_le (a b : BitVec 32) : ∃ s, s ≤ 10 ∧ seqWord a b = BitVec.ofNat 32 s := by
  unfold seqWord
  generalize IntOp.absi (IntOp.subi a b) = x
  refine ⟨(IntOp.minsi 10#32 (IntOp.maxsi 0#32 x)).toNat, ?_, by simp⟩
  unfold IntOp.minsi IntOp.maxsi
  have h0 : (0#32).toInt = 0 := rfl
  have h10 : (10#32).toInt = 10 := rfl
  have hx := x.isLt
  have hi : x.toInt = if 2 * x.toNat < 2 ^ 32 then (x.toNat : ℤ) else (x.toNat : ℤ) - ((2 ^ 32 : ℕ) : ℤ) := BitVec.toInt_eq_toNat_cond x
  simp only [BitVec.slt, decide_eq_true_eq]
  split_ifs with h1 h2 h2
  · decide
  · decide
  · decide
  · rw [h10] at h2
    rw [h0] at h1
    split_ifs at hi <;> omega

/-- The value of one bit read without a sign. -/
theorem uitofp_decide (p : Prop) [Decidable p] :
    FloatOps.uitofp (F := Ideal) .f32 (BitVec.ofBool (decide p)) = if p then (1 : EReal) else 0 := by
  by_cases h : p
  · simp only [h, decide_true, if_true]
    show (((BitVec.ofBool true).toNat : ℝ) : EReal) = 1
    rw [show (BitVec.ofBool true).toNat = 1 from by decide]; norm_num
  · simp only [h, decide_false, if_false]
    show (((BitVec.ofBool false).toNat : ℝ) : EReal) = 0
    rw [show (BitVec.ofBool false).toNat = 0 from by decide]; norm_num

/-- The kernel's feature of an edge is the reference's, for labels within their ranges: a column lies in one block of one-hot
    columns only. -/
theorem feature_eq (a b r s q : ℕ) (ha : a < 20) (hb : b < 20) (hr : r < 7) (hs : s ≤ 10) (hq : q < 59) (dx dy dz : EReal) :
    featWord (BitVec.ofNat 32 a) (BitVec.ofNat 32 b) (BitVec.ofNat 32 r) (BitVec.ofNat 32 s) dx dy dz (BitVec.ofNat 32 q)
      = refWord (BitVec.ofNat 32 a) (BitVec.ofNat 32 b) (BitVec.ofNat 32 r) (BitVec.ofNat 32 s) dx dy dz q := by
  have hbit : hotBit (BitVec.ofNat 32 a) (BitVec.ofNat 32 b) (BitVec.ofNat 32 r) (BitVec.ofNat 32 s) (BitVec.ofNat 32 q)
      = BitVec.ofBool (decide (q = a ∨ q = b + 20 ∨ q = r + 40 ∨ q = s + 47)) := by
    unfold hotBit
    rw [show (20#32) = BitVec.ofNat 32 20 from rfl, show (40#32) = BitVec.ofNat 32 40 from rfl, show (7#32) = BitVec.ofNat 32 7 from rfl,
      WordCmp.addi_ofNat, WordCmp.addi_ofNat, WordCmp.addi_ofNat, WordCmp.addi_ofNat, WordCmp.cmpi_eq_ofNat (by omega) (by omega), WordCmp.cmpi_eq_ofNat (by omega) (by omega),
      WordCmp.cmpi_eq_ofNat (by omega) (by omega), WordCmp.cmpi_eq_ofNat (by omega) (by omega), WordCmp.ori_ofBool, WordCmp.ori_ofBool, WordCmp.ori_ofBool]
    congr 1
    rw [Bool.eq_iff_iff]
    simp only [Bool.or_eq_true, decide_eq_true_eq]
    omega
  unfold featWord refWord
  rw [hbit, Cert.KernelIdeal.Count.sitofp_bool, show (58#32) = BitVec.ofNat 32 58 from rfl, WordCmp.cmpi_eq_ofNat (by omega) (by omega), WordCmp.select_decide,
    WordCmp.cmpi_eq_ofNat (by omega) (by omega), WordCmp.cmpi_eq_ofNat (by omega) (by omega),
    WordCmp.cmpi_eq_ofNat (by omega) (by omega), WordCmp.cmpi_eq_ofNat (by omega) (by omega),
    uitofp_decide, uitofp_decide, uitofp_decide, uitofp_decide]
  have hcol : ∀ (P Q : Prop) [Decidable P] [Decidable Q], (P ↔ Q) → (if P then (1 : EReal) else 0) = if Q then 1 else 0 := by
    intro P Q _ _ h
    by_cases hP : P
    · rw [if_pos hP, if_pos (h.mp hP)]
    · rw [if_neg hP, if_neg (fun hQ => hP (h.mpr hQ))]
  by_cases h1 : q < 20
  · rw [if_neg (by omega), if_pos h1]; exact hcol _ _ (by omega)
  rw [if_neg h1]
  by_cases h2 : q - 20 < 20
  · rw [if_neg (by omega), if_pos h2]; exact hcol _ _ (by omega)
  rw [if_neg h2]
  by_cases h3 : q - 20 - 20 < 7
  · rw [if_neg (by omega), if_pos h3]; exact hcol _ _ (by omega)
  rw [if_neg h3]
  by_cases h4 : q - 20 - 20 - 7 < 11
  · rw [if_neg (by omega), if_pos h4]; exact hcol _ _ (by omega)
  rw [if_neg h4, if_pos (by omega)]

end Cert.Same
-- ==== Proof.RefVals.lean ====
/- The reference's terms read at an index, over labels that are numbers below sixteen. -/
module

public import proofs.«01_k».proof.Proof.RefTerms

@[expose] public section

set_option maxRecDepth 16384

noncomputable section

namespace Cert.ReferenceIdeal.Terms

open Cert.ReferenceIdeal Cert.ReferenceIdeal.Gen
open Idealize.ShloMosaic Idealize.ShloMosaic.TcCoe
open Cert.KernelIdeal.Host (wrapped wrapped_at wrapWord wrapWord_ofNat pick pick_ofNat)
open Cert.KernelIdeal

/-- The order at an edge's rank is the edge. -/
theorem order_at (x : IVec S800000 32) (k : ℕ → ℕ) (hk : ∀ e : Fin 800000, x (ix1 e) = BitVec.ofNat 32 (k e))
    (hk16 : ∀ e : Fin 800000, k e < 16) (e : Fin 800000) :
    order x (ix1 (Count.rankF 800000 k e)) = BitVec.ofNat 32 e.val := by
  have along : ∀ (j i : Fin 800000), (ix1 j : S800000.Idx).along (0 : Fin 1) i = ix1 i := fun j i => by
    funext a
    match a with
    | ⟨0, _⟩ => rfl
  have hB : ∀ a b : Fin 800000, (comparator_i32_i32_d0 (x ((ix1 (Count.rankF 800000 k e) : S800000.Idx).along (0 : Fin 1) a), iotaInDim S800000 32 0 ((ix1 (Count.rankF 800000 k e) : S800000.Idx).along (0 : Fin 1) a))
      (x ((ix1 (Count.rankF 800000 k e) : S800000.Idx).along (0 : Fin 1) b), iotaInDim S800000 32 0 ((ix1 (Count.rankF 800000 k e) : S800000.Idx).along (0 : Fin 1) b)) == 1#1) = decide (k a < k b) := fun a b => by
    rw [along, along]
    show (IntOp.cmpi .slt (x (ix1 a)) (x (ix1 b)) == 1#1) = _
    rw [hk, hk, WordCmp.cmpi_slt_ofNat (lt_trans (hk16 a) (by decide)) (lt_trans (hk16 b) (by decide))]
    by_cases h : k a < k b <;> simp [h]
  have hs := Count.sortedFrom_rank 800000 k _ hB e
  unfold order
  rw [Host.sort2_eq_sortBy]
  refine (congrArg (fun i : Fin 800000 => iotaInDim S800000 32 0 ((ix1 (Count.rankF 800000 k e) : S800000.Idx).along (0 : Fin 1) i)) hs).trans ?_
  show iotaInDim S800000 32 0 ((ix1 (Count.rankF 800000 k e) : S800000.Idx).along (0 : Fin 1) e) = _
  rw [along]
  rfl

/-- The entries at an edge's rank are the edge's. -/
theorem taken_at (o x : IVec S800000 32) (p e : Fin 800000) (ho : o (ix1 p) = BitVec.ofNat 32 e.val) :
    taken o x (ix1 p) = x (ix1 e) := by
  refine Eq.trans ?_ (congrArg (fun i => x (ix1 i)) (pick_ofNat 800000 (by decide) e (by norm_num)))
  rw [← ho]
  unfold taken Host.gather
  refine congrArg x (funext fun a => Fin.ext ?_)
  match a with
  | ⟨0, _⟩ =>
    show min (wrapped 800000#32 o _).toInt.toNat _ = min (wrapWord 800000#32 (o (ix1 p))).toInt.toNat 799999
    rw [← wrapped_at]
    congr 4
    funext b
    match b with
    | ⟨0, _⟩ => rfl
    | ⟨1, _⟩ => rfl

/-- The starts of the runs: how many edges carry a smaller label. -/
theorem runStarts_at (h : IVec S16 32) (c : ℕ → ℕ) (hc : ∀ g : Fin 16, h (ix1 g) = BitVec.ofNat 32 (c g)) (g : Fin 16) :
    runStarts h (ix1 g) = BitVec.ofNat 32 ((List.range g.val).map c).sum := by
  unfold runStarts
  rw [ix1_eq_valueIdx]
  refine (Routing.cumsum1 (N := 16) (Nm1 := 15) rfl _ (fun i => if i = 0 then 0 else c (i - 1)) (fun i => ?_)
    (broadcastInDim S_ ![] bcast_S_S_ (constantI S_ 32 0#32)) rfl reduceWindows_S16_S16_w16s1p15_0 h_S_ g).trans ?_
  · refine (Routing.scatter_one scatter_S16_S1_S__n_0_0_0 rfl rfl _ _ _ (0 : Fin 16) (by decide) rfl i).trans ?_
    by_cases hi : i = 0
    · subst hi; rfl
    · have h0 : i.val ≠ 0 := fun e => hi (Fin.ext e)
      rw [if_neg hi, if_neg h0, ← ix1_eq_valueIdx]
      have hlt := i.isLt
      refine Eq.trans ?_ (hc ⟨i.val - 1, by omega⟩)
      pointwise
      rw [dif_neg (by omega)]
  · rw [List.range_succ_eq_map, List.map_cons, List.map_map, List.sum_cons]
    simp [Function.comp_def]

/-- The run a position lies in, one less than how many starts are at or before it. -/
theorem runAt_at (s : IVec S16 32) (E : ℕ → ℕ) (hE : ∀ g : Fin 16, s (ix1 g) = BitVec.ofNat 32 (E g)) (hE31 : ∀ g : Fin 16, E g < 2 ^ 31)
    (j : Fin 800000) : runAt s (ix1 j) = BitVec.ofNat 32 (Nat.count (fun g => E g ≤ j.val) 16) - 1#32 := by
  have hcum := Routing.cumsum1 (N := 800000) (Nm1 := 799999) rfl
    (Host.scatter scatter_S800000_S16x1_S16_n_0_0_1 IntOp.addi (broadcastInDim S800000 ![] bcast_S_S800000 (constantI S_ 32 0#32)) (broadcastInDim S16x1 ![0] bcast_S16_S16x1_0 (select (cmpi .slt s (broadcastInDim S16 ![] bcast_S_S16 (constantI S_ 32 0#32))) (addi s (broadcastInDim S16 ![] bcast_S_S16 (constantI S_ 32 800000#32))) s)) (broadcastInDim S16 ![] bcast_S_S16 (constantI S_ 32 1#32)))
    (fun i => Nat.count (fun g => E g = i) 16) (fun i => ?_)
    (broadcastInDim S_ ![] bcast_S_S_ (constantI S_ 32 0#32)) rfl reduceWindows_S800000_S800000_w800000s1p799999_0 h_S_ j
  · rw [← ix1_eq_valueIdx] at hcum
    unfold runAt
    refine (congrArg (fun w => IntOp.subi w 1#32) hcum).trans ?_
    show BitVec.ofNat 32 _ - 1#32 = _
    rw [Count.sum_count_lt E 16 (j.val + 1)]
    simp only [Nat.lt_succ_iff]
  · refine Count.histogram scatter_S800000_S16x1_S16_n_0_0_1 (fun _ => rfl) (fun i idx => ?_) _ (fun _ => rfl) _ _ (fun _ => rfl) E
      (fun g => ?_) hE31 i
    · show (idx _).toInt = _
      congr 2
      funext b
      match b with
      | ⟨0, _⟩ => rfl
      | ⟨1, _⟩ => rfl
    · rw [← ix2_eq_valueIdx]
      refine Eq.trans ?_ (wrapWord_ofNat 800000#32 (E g) (hE31 g))
      rw [← hE g]
      pointwise [wrapWord]

/-- The table's entry at a run inside it. -/
theorem lookedUp_at (n : IVec S16 32) (p : IVec S800000 32) (j : Fin 800000) (G : Fin 16) (hp : p (ix1 j) = BitVec.ofNat 32 G.val) :
    lookedUp n p (ix1 j) = n (ix1 G) := by
  have hw : wrapped 16#32 p (ix2 j 0) = BitVec.ofNat 32 G.val := by
    rw [wrapped_at, hp, wrapWord_ofNat _ _ (lt_trans G.isLt (by decide))]
  have hone : Host.reduce IntOp.andi (andi (cmpi .sge (wrapped 16#32 p) (broadcastInDim S800000x1 ![] bcast_S_S800000x1 (constantI S_ 32 0#32))) (cmpi .sle (wrapped 16#32 p) (broadcastInDim S800000x1 ![0, 1] bcast_S1x1_S800000x1_0_1 (broadcastInDim S1x1 ![1] bcast_S1_S1x1_1 (constantI S1 32 15#32))))) (constantI S_ 1 1#1) reducesTo_S800000x1_S800000_d1 h_S_ (ix1 j) = 1#1 := by
    have hred : S800000x1.Reduces [(1 : Fin S800000x1.rank)] S800000 := ⟨rfl, Nat.one_pos, reducesTo_S800000x1_S800000_d1.2⟩
    rw [Host.reduce_eq_fold_single IntOp.andi _ _ reducesTo_S800000x1_S800000_d1 hred h_S_ (ix1 j)]
    have hl : hred.lift (ix1 j) (0 : Fin 1) = ix2 j 0 := by
      funext a
      match a with
      | ⟨0, _⟩ => rfl
      | ⟨1, _⟩ => rfl
    have hu : (Finset.univ : Finset (Fin (S800000x1.size 1))) = {(0 : Fin 1)} := rfl
    rw [hu]
    refine (Finset.fold_singleton (op := IntOp.andi) (b := 1#1) (a := (0 : Fin 1)) (f := fun i : Fin 1 =>
      IntOp.andi (IntOp.cmpi .sge (wrapped 16#32 p (hred.lift (ix1 j) i)) 0#32) (IntOp.cmpi .sle (wrapped 16#32 p (hred.lift (ix1 j) i)) 15#32))).trans ?_
    rw [hl, hw]
    exact (by decide : ∀ g : Fin 16, IntOp.andi (IntOp.andi (IntOp.cmpi .sge (BitVec.ofNat 32 g.val) 0#32)
      (IntOp.cmpi .sle (BitVec.ofNat 32 g.val) 15#32)) 1#1 = 1#1) G
  unfold lookedUp
  show Scalar.select (Host.reduce _ _ _ _ _ (ix1 j)) _ _ = _
  rw [hone]
  show Host.gather gather_S16_S800000x1_S800000_n_0_n_n_0_1_1 n (wrapped 16#32 p) (ix1 j) = _
  refine Eq.trans ?_ (congrArg (fun i => n (ix1 i)) (pick_ofNat 16 (by decide) G (by norm_num)))
  rw [← hp]
  unfold Host.gather
  refine congrArg n (funext fun a => Fin.ext ?_)
  match a with
  | ⟨0, _⟩ =>
    refine (congrArg (fun w : BitVec 32 => min w.toInt.toNat 15) ?_ :
      min (wrapped 16#32 p _).toInt.toNat 15 = min (wrapWord 16#32 (p (ix1 j))).toInt.toNat 15)
    rw [← wrapped_at]
    refine congrArg (wrapped 16#32 p) (funext fun b => ?_)
    match b with
    | ⟨0, _⟩ => rfl
    | ⟨1, _⟩ => rfl

end Cert.ReferenceIdeal.Terms

end
-- ==== Proof.Reorder.lean ====
/- Moving every entry to its rank is reading the entries in sorted order, so the two programs' results are the same terms. -/
module

public import proofs.«01_k».proof.Proof.Words
public import proofs.«01_k».proof.Proof.RefVals

@[expose] public section

noncomputable section

namespace Cert.Same

open Idealize.ShloMosaic
open Cert.KernelIdeal (S800000 S800000x3 S50000 S50000x3 S12500 S16)
open Cert.KernelIdeal.Host Cert.KernelIdeal.Run
open Cert.ReferenceIdeal.Terms (order taken features runStarts runAt lookedUp order_at taken_at features_at runStarts_at runAt_at lookedUp_at)
open Cert.KernelIdeal.Count (rankF rankF_injective)

/-- Every position is some edge's rank. -/
theorem rankF_surjective (k : ℕ → ℕ) : Function.Surjective (rankF 800000 k) :=
  Finite.surjective_of_injective (rankF_injective 800000 k)

section
variable (x : IVec S800000 32) (k : ℕ → ℕ) (hk : ∀ e : Fin 800000, x (ix1 e) = BitVec.ofNat 32 (k e)) (hk16 : ∀ e : Fin 800000, k e < 16)
variable (p : IVec S800000 32) (hp : ∀ e : Fin 800000, p (ix1 e) = BitVec.ofNat 32 (rankF 800000 k e).val)

include hk hk16 in
/-- What the reference reads at an edge's rank is the edge's entry. -/
theorem taken_rank (y : IVec S800000 32) (e : Fin 800000) : taken (order x) y (ix1 (rankF 800000 k e)) = y (ix1 e) :=
  taken_at _ y _ e (order_at x k hk hk16 e)

include hk hk16 hp in
/-- A word vector moved to the ranks is the vector read in sorted order. -/
theorem moved_eq_taken (y : IVec S800000 32) : moved p y = taken (order x) y := by
  funext i
  obtain ⟨e, he⟩ := rankF_surjective k (i 0)
  rw [eq_ix1 i, ← he]
  exact (moved_at p y (rankF 800000 k) (rankF_injective 800000 k) hp e).trans (taken_rank x k hk hk16 y e).symm

include hk hk16 hp in
/-- The features of the edge in place `j`, for labels within their ranges. -/
theorem features_eq (A0 : FVec Ideal S50000x3 .f32) (A1 : IVec S50000 32) (A2 : IVec S12500 32) (A5 v w : IVec S800000 32)
    (h2 : ∀ i : Fin 12500, (A2 (ix1 i)).toNat < 20 ∧ A2 (ix1 i) = BitVec.ofNat 32 (A2 (ix1 i)).toNat)
    (h5 : ∀ i : Fin 800000, (A5 (ix1 i)).toNat < 7 ∧ A5 (ix1 i) = BitVec.ofNat 32 (A5 (ix1 i)).toNat) (j : Fin 800000) (q : Fin 59) :
    featWord (moved p (perResidue A2 (perNode A1 v)) (ix1 j)) (moved p (perResidue A2 (perNode A1 w)) (ix1 j)) (moved p A5 (ix1 j))
        (moved p (seqDist (perNode A1 v) (perNode A1 w)) (ix1 j))
        (movedF p (coord0 (subf (position A0 v) (position A0 w))) (ix1 j)) (movedF p (coord1 (subf (position A0 v) (position A0 w))) (ix1 j))
        (movedF p (coord2 (subf (position A0 v) (position A0 w))) (ix1 j)) (BitVec.ofNat 32 q.val)
      = features (perResidue A2 (perNode A1 (taken (order x) v))) (perResidue A2 (perNode A1 (taken (order x) w))) (taken (order x) A5)
          (seqDist (perNode A1 (taken (order x) v)) (perNode A1 (taken (order x) w)))
          (subf (position A0 (taken (order x) v)) (position A0 (taken (order x) w))) (ix2 j q) := by
  obtain ⟨e, rfl⟩ := rankF_surjective k j
  have hm := fun y : IVec S800000 32 => moved_at p y (rankF 800000 k) (rankF_injective 800000 k) hp e
  have hf := fun y : FVec Ideal S800000 .f32 => movedF_at p y (rankF 800000 k) (rankF_injective 800000 k) hp e
  have ht := fun y : IVec S800000 32 => taken_rank x k hk hk16 y e
  have hs : ∀ (y : IVec S800000 32) (c : Fin 3), position A0 (taken (order x) y) (ix2 (rankF 800000 k e) c) = position A0 y (ix2 e c) := fun y c => by
    rw [position_at, position_at, ht y]
  have hd : ∀ c : Fin 3, (subf (position A0 (taken (order x) v)) (position A0 (taken (order x) w)) : FVec Ideal S800000x3 .f32) (ix2 (rankF 800000 k e) c)
      = (subf (position A0 v) (position A0 w) : FVec Ideal S800000x3 .f32) (ix2 e c) := fun c => by
    show FloatOps.subf _ _ = FloatOps.subf _ _
    rw [hs v c, hs w c]
  rw [features_at, hd 0, hd 1, hd 2, hm, hm, hm, hm, hf, hf, hf, coord0_at, coord1_at, coord2_at, ht A5, perResidue_at, perResidue_at,
    perResidue_at A2 (perNode A1 (taken (order x) v)), perResidue_at A2 (perNode A1 (taken (order x) w)), seqDist_at, seqDist_at,
    perNode_at, perNode_at, perNode_at A1 (taken (order x) v), perNode_at A1 (taken (order x) w), ht v, ht w]
  obtain ⟨s, hs10, hsw⟩ := seqWord_le (A1 (ix1 (pick 50000 (by decide) (v (ix1 e))))) (A1 (ix1 (pick 50000 (by decide) (w (ix1 e)))))
  rw [hsw, (h2 _).2, (h2 (pick 12500 (by decide) (A1 (ix1 (pick 50000 (by decide) (w (ix1 e))))))).2, (h5 e).2]
  exact feature_eq _ _ _ _ _ (h2 _).1 (h2 _).1 (h5 e).1 hs10 q.isLt _ _ _

/-- The run every position lies in is one of the sixteen: the first starts at zero. -/
theorem run_exists (j : ℕ) : ∃ G : Fin 16, runsTo (fun g => Nat.count (fun e => k e < g) 800000) j = G.val + 1 := by
  have h1 : runsTo (fun g => Nat.count (fun e => k e < g) 800000) j ≤ 16 := Nat.count_le _
  have h0 : 1 ≤ runsTo (fun g => Nat.count (fun e => k e < g) 800000) j := by
    refine le_trans ?_ (Nat.count_monotone _ (show 1 ≤ 16 by omega))
    rw [Nat.count_succ, Nat.count_zero, if_pos]
    show Nat.count (fun e => k e < 0) 800000 ≤ j
    simp
  exact ⟨⟨runsTo (fun g => Nat.count (fun e => k e < g) 800000) j - 1, by omega⟩, by show _ = _ - 1 + 1; omega⟩

include hk hk16 in
/-- The offset the reference gives position `j`: the table's entry at the run the position lies in. -/
theorem lookedUp_run (n : IVec S16 32) (j : Fin 800000) (G : Fin 16)
    (hG : runsTo (fun g => Nat.count (fun e => k e < g) 800000) j.val = G.val + 1) :
    lookedUp n (runAt (runStarts (edgeHist x))) (ix1 j) = n (ix1 G) := by
  have hE : ∀ g : Fin 16, runStarts (edgeHist x) (ix1 g) = BitVec.ofNat 32 (Nat.count (fun e => k e < g.val) 800000) := fun g => by
    rw [runStarts_at _ (fun i => Nat.count (fun e => k e = i) 800000) (edgeHist_at x k hk hk16) g, Cert.KernelIdeal.Count.sum_count_lt]
  refine lookedUp_at n _ j G ?_
  rw [runAt_at _ (fun g => Nat.count (fun e => k e < g) 800000) hE
    (fun g => lt_of_le_of_lt (Nat.count_le _) (by norm_num)) j]
  unfold runsTo at hG
  rw [hG, BitVec.ofNat_add]
  exact BitVec.add_sub_cancel _ _

end

end Cert.Same
-- ==== Proof.Results.lean ====
/- The kernel's four results, over labels within their ranges, are the reference's terms of the kernel's arguments. -/
module

public import proofs.«01_k».proof.Proof.Run
public import proofs.«01_k».proof.Proof.RankArr
public import proofs.«01_k».proof.Proof.FeatArr
public import proofs.«01_k».proof.Proof.Reorder

@[expose] public section

set_option maxRecDepth 16384

noncomputable section

namespace Cert.Same

open Cert.KernelIdeal Cert.KernelIdeal.Gen Cert.KernelIdeal.Host Cert.KernelIdeal.Run
open Idealize.ShloMosaic Idealize.ShloMosaic.TcCoe
open Cert.KernelIdeal.Count (rankF)
open Cert.ReferenceIdeal.Terms (order taken features runStarts runAt lookedUp)

variable (m : (ℓ : Loc nD τ sig) → Buf (Elt Ideal) ℓ) (c : Dev nD)

/-- The arguments, as arrays: the position of every node. -/
abbrev A0 : FVec Ideal S50000x3 .f32 := m ((c : Thread nD τ).loc main_arg0)
/-- The residue of every node. -/
abbrev A1 : IVec S50000 32 := m ((c : Thread nD τ).loc main_arg1)
/-- The type of every residue. -/
abbrev A2 : IVec S12500 32 := m ((c : Thread nD τ).loc main_arg2)
/-- The graph of every node. -/
abbrev A3 : IVec S50000 32 := m ((c : Thread nD τ).loc main_arg3)
/-- The two ends of every edge. -/
abbrev A4 : IVec S2x800000 32 := m ((c : Thread nD τ).loc main_arg4)
/-- The relation of every edge. -/
abbrev A5 : IVec S800000 32 := m ((c : Thread nD τ).loc main_arg5)

/-- The edges' labels. -/
abbrev key : IVec S800000 32 := perNode (A3 m c) (nodeIn (A4 m c))

/-- The edges' labels as numbers. -/
def lab (e : ℕ) : ℕ := if h : e < 800000 then (key m c (ix1 ⟨e, h⟩)).toNat else 0

/-- The labels within their ranges. -/
structure InRange : Prop where
  node : ∀ i : Fin 50000, (A3 m c (ix1 i)).toNat < 16 ∧ A3 m c (ix1 i) = BitVec.ofNat 32 (A3 m c (ix1 i)).toNat
  residue : ∀ i : Fin 12500, (A2 m c (ix1 i)).toNat < 20 ∧ A2 m c (ix1 i) = BitVec.ofNat 32 (A2 m c (ix1 i)).toNat
  relation : ∀ i : Fin 800000, (A5 m c (ix1 i)).toNat < 7 ∧ A5 m c (ix1 i) = BitVec.ofNat 32 (A5 m c (ix1 i)).toNat

/-- An edge's label is its number, -/
theorem lab_eq (e : Fin 800000) : key m c (ix1 e) = BitVec.ofNat 32 (lab m c e.val) := by
  unfold lab
  rw [dif_pos e.isLt]
  simp

/-- one of sixteen. -/
theorem lab_lt (h : InRange m c) (e : ℕ) (he : e < 800000) : lab m c e < 16 := by
  unfold lab
  rw [dif_pos he]
  have e' : key m c (ix1 ⟨e, he⟩) = A3 m c (ix1 (pick 50000 (by decide) (nodeIn (A4 m c) (ix1 ⟨e, he⟩)))) := perNode_at _ _ _
  rw [e']
  exact (h.node _).1

/-- A buffer the first line does not write is as launched when the first pass is left. -/
theorem rank_arg (b : Ref sig .tc) (h0 : b ∉ hostOps0_W) (hr : ∀ w, Pipeline.arrRef spec0 w ≠ b) :
    afterRank m c (Proc.devRef .tc b) = m ((c : Thread nD τ).loc b) := by
  rw [afterRank_of_ne m c b hr, V1_of m c b h0]

/-- The positions are as launched when the first pass is left. -/
theorem rank_arg0 : afterRank m c main_arg0 = A0 m c := rank_arg m c main_arg0 (by decide +kernel) (by decide +kernel)
/-- So are the nodes' residues, -/
theorem rank_arg1 : afterRank m c main_arg1 = A1 m c := rank_arg m c main_arg1 (by decide +kernel) (by decide +kernel)
/-- the residues' types -/
theorem rank_arg2 : afterRank m c main_arg2 = A2 m c := rank_arg m c main_arg2 (by decide +kernel) (by decide +kernel)
/-- and the edges' relations. -/
theorem rank_arg5 : afterRank m c main_arg5 = A5 m c := rank_arg m c main_arg5 (by decide +kernel) (by decide +kernel)
/-- The edges' tails are kept through the first pass. -/
theorem rank_v1 : afterRank m c main_call0_v1 = nodeIn (A4 m c) :=
  (afterRank_of_ne m c main_call0_v1 (by decide +kernel)).trans (before_rank (V0 m c)).1
/-- The edges' heads are kept too, -/
theorem rank_v3 : afterRank m c main_call0_v3 = nodeOut (A4 m c) :=
  (afterRank_of_ne m c main_call0_v3 (by decide +kernel)).trans (before_rank (V0 m c)).2.1
/-- the starts of the edges' runs -/
theorem rank_v34 : afterRank m c main_call0_v34 = startsOf (edgeHist (key m c)) :=
  (afterRank_of_ne m c main_call0_v34 (by decide +kernel)).trans (before_rank (V0 m c)).2.2.2.1
/-- and the starts of the nodes' runs. -/
theorem rank_v32 : afterRank m c main_call0_v32 = startsOf (nodeHist (A3 m c)) :=
  (afterRank_of_ne m c main_call0_v32 (by decide +kernel)).trans (before_rank (V0 m c)).2.2.2.2.1

/-- A table of sixteen as the passes take it. -/
theorem table_at (x : IVec S16 32) (g : Fin 16) : shapeCast S1x1x16 x shapeCasts_S16_S1x1x16 (ix3 0 0 g) = x (ix1 g) := by
  pointwise

/-- The positions the edges are moved to. -/
abbrev places : IVec S800000 32 := flat (afterRank m c main_call0_v37)

/-- They are the edges' ranks. -/
theorem places_at (h : InRange m c) (e : Fin 800000) : places m c (ix1 e) = BitVec.ofNat 32 (rankF 800000 (lab m c) e).val := by
  have hv := rank_value (inRank m) c (lab m c)
    (fun b r => by
      refine (congrFun (before_rank (V0 m c)).2.2.2.2.2.1 (ix3 b 0 r)).trans ?_
      exact (blocked_at (key m c) b r).trans (lab_eq m c _))
    (fun e he => lab_lt m c h e he)
    (fun g => by
      refine (congrFun (before_rank (V0 m c)).2.2.2.2.2.2 (ix3 0 0 g)).trans ?_
      rw [table_at]
      exact estart_at (key m c) (lab m c) (lab_eq m c) (fun e => lab_lt m c h e.val e.isLt) g)
    ⟨e.val / 1600, by have := e.isLt; omega⟩ ⟨e.val % 1600, Nat.mod_lt _ (by decide)⟩
  refine (flat_at _ e).trans ?_
  refine (congrFun (afterRank_arr m c 2) _).trans (hv.trans (congrArg (BitVec.ofNat 32) ?_))
  show Cert.KernelIdeal.Count.rank 800000 (lab m c) (e.val / 1600 * 1600 + e.val % 1600) = Cert.KernelIdeal.Count.rank 800000 (lab m c) e.val
  rw [Nat.div_add_mod']

/-- The edge list. -/
theorem end_edges (h : InRange m c) : atEnd m c main_v0_0 = columns (taken (order (key m c)) (nodeIn (A4 m c)))
    (taken (order (key m c)) (nodeOut (A4 m c))) (taken (order (key m c)) (A5 m c)) := by
  have hm := moved_eq_taken (key m c) (lab m c) (lab_eq m c) (fun e => lab_lt m c h e.val e.isLt) (places m c) (places_at m c h)
  have h92 : afterFeat m c main_call0_v92 = moved (places m c) (nodeIn (A4 m c)) := by
    refine (afterFeat_of_ne m c main_call0_v92 (by decide +kernel)).trans ?_
    rw [← rank_v1]
    exact (between_words (afterRank m c)).1
  have h100 : afterFeat m c main_call0_v100 = moved (places m c) (nodeOut (A4 m c)) := by
    refine (afterFeat_of_ne m c main_call0_v100 (by decide +kernel)).trans ?_
    rw [← rank_v3]
    exact (between_words (afterRank m c)).2.1
  have h108 : afterFeat m c main_call0_v108 = moved (places m c) (A5 m c) := by
    refine (afterFeat_of_ne m c main_call0_v108 (by decide +kernel)).trans ?_
    rw [← rank_arg5]
    exact (between_words (afterRank m c)).2.2.1
  refine (after_feat (afterFeat m c)).1.trans ?_
  rw [h92, h100, h108, hm, hm, hm]

/-- The counts. -/
theorem end_counts : atEnd m c main_v0_3 = edgeHist (key m c) := by
  unfold atEnd
  rw [StableHlo.after_of_writes_sub hostOps2 _ hostOps2_writes (by decide +kernel : main_v0_3 ∉ hostOps2_W)]
  refine (afterFeat_of_ne m c main_v0_3 (by decide +kernel)).trans ?_
  unfold beforeFeat
  rw [StableHlo.after_of_writes_sub hostOps1 _ hostOps1_writes (by decide +kernel : main_v0_3 ∉ hostOps1_W)]
  exact (afterRank_of_ne m c main_v0_3 (by decide +kernel)).trans (before_rank (V0 m c)).2.2.1

/-- The offsets. -/
theorem end_offsets (h : InRange m c) :
    atEnd m c main_v0_2 = lookedUp (startsOf (nodeHist (A3 m c))) (runAt (runStarts (edgeHist (key m c)))) := by
  refine (after_feat (afterFeat m c)).2.trans ?_
  funext i
  obtain ⟨j, rfl⟩ : ∃ j : Fin 800000, i = ix1 j := ⟨i 0, eq_ix1 i⟩
  obtain ⟨G, hG⟩ := run_exists (lab m c) j.val
  rw [lookedUp_run (key m c) (lab m c) (lab_eq m c) (fun e => lab_lt m c h e.val e.isLt) _ j G hG]
  refine (flat_at _ j).trans ?_
  refine (congrFun (afterFeat_arr m c 10) _).trans ?_
  refine (off_arr (inFeat m) c (fun g => Nat.count (fun e => lab m c e < g) 800000) (fun g => ?_)
    (fun g _ => lt_of_le_of_lt (Nat.count_le _) (by norm_num)) _ _ G ?_).trans ?_
  · refine (congrFun (between_words (afterRank m c)).2.2.2.2.2.2.2.1 (ix3 0 0 g)).trans ?_
    rw [rank_v34, table_at]
    exact estart_at (key m c) (lab m c) (lab_eq m c) (fun e => lab_lt m c h e.val e.isLt) g
  · rw [← hG]
    exact congrArg _ (Nat.div_add_mod' _ _)
  · refine (congrFun (between_words (afterRank m c)).2.2.2.2.2.2.2.2 (ix3 0 0 G)).trans ?_
    rw [rank_v32, table_at]

/-- The features. -/
theorem end_features (h : InRange m c) :
    atEnd m c main_v0_1 = features (perResidue (A2 m c) (perNode (A1 m c) (taken (order (key m c)) (nodeIn (A4 m c)))))
      (perResidue (A2 m c) (perNode (A1 m c) (taken (order (key m c)) (nodeOut (A4 m c))))) (taken (order (key m c)) (A5 m c))
      (seqDist (perNode (A1 m c) (taken (order (key m c)) (nodeIn (A4 m c)))) (perNode (A1 m c) (taken (order (key m c)) (nodeOut (A4 m c)))))
      (subf (position (A0 m c) (taken (order (key m c)) (nodeIn (A4 m c)))) (position (A0 m c) (taken (order (key m c)) (nodeOut (A4 m c))))) := by
  unfold atEnd
  rw [StableHlo.after_of_writes_sub hostOps2 _ hostOps2_writes (by decide +kernel : main_v0_1 ∉ hostOps2_W)]
  funext i
  obtain ⟨j, q, rfl⟩ : ∃ (j : Fin 800000) (q : Fin 59), i = ix2 j q := ⟨i 0, i 1, eq_ix2 i⟩
  refine Eq.trans ?_ (features_eq (key m c) (lab m c) (lab_eq m c) (fun e => lab_lt m c h e.val e.isLt) (places m c) (places_at m c h)
    (A0 m c) (A1 m c) (A2 m c) (A5 m c) (nodeIn (A4 m c)) (nodeOut (A4 m c)) h.residue h.relation j q)
  have hj : (⟨j.val / 1600 * 1600 + j.val % 1600, by have := j.isLt; omega⟩ : Fin 800000) = j := Fin.ext (Nat.div_add_mod' _ _)
  have hfa := feat_arr (inFeat m) c ⟨j.val / 1600, by have := j.isLt; omega⟩ ⟨j.val % 1600, Nat.mod_lt _ (by decide)⟩ q
  have hw := between_words (afterRank m c)
  have hf := between_floats (afterRank m c)
  rw [rank_v1, rank_v3, rank_arg1, rank_arg2, rank_arg5, rank_v34, rank_v32] at hw
  rw [rank_v1, rank_v3, rank_arg0] at hf
  refine (congrFun (afterFeat_arr m c 9) (ix2 j q)).trans ?_
  rw [hj] at hfa
  refine hfa.trans ?_
  have hb : ∀ {α : Type} (x : S800000.Idx → α), blocked x (ix3 ⟨j.val / 1600, by have := j.isLt; omega⟩ 0 ⟨j.val % 1600, Nat.mod_lt _ (by decide)⟩) = x (ix1 j) :=
    fun x => (blocked_at x _ _).trans (congrArg (fun i => x (ix1 i)) hj)
  have e163 := (congrFun hw.2.2.2.1 _).trans (hb (moved (places m c) (perResidue (A2 m c) (perNode (A1 m c) (nodeIn (A4 m c))))))
  have e164 := (congrFun hw.2.2.2.2.1 _).trans (hb (moved (places m c) (perResidue (A2 m c) (perNode (A1 m c) (nodeOut (A4 m c))))))
  have e165 := (congrFun hw.2.2.2.2.2.1 _).trans (hb (moved (places m c) (A5 m c)))
  have e166 := (congrFun hw.2.2.2.2.2.2.1 _).trans (hb (moved (places m c) (seqDist (perNode (A1 m c) (nodeIn (A4 m c))) (perNode (A1 m c) (nodeOut (A4 m c))))))
  have e167 := (congrFun hf.1 _).trans (hb (movedF (places m c) (coord0 (subf (position (A0 m c) (nodeIn (A4 m c))) (position (A0 m c) (nodeOut (A4 m c)))))))
  have e168 := (congrFun hf.2.1 _).trans (hb (movedF (places m c) (coord1 (subf (position (A0 m c) (nodeIn (A4 m c))) (position (A0 m c) (nodeOut (A4 m c)))))))
  have e169 := (congrFun hf.2.2 _).trans (hb (movedF (places m c) (coord2 (subf (position (A0 m c) (nodeIn (A4 m c))) (position (A0 m c) (nodeOut (A4 m c)))))))
  unfold inFeat beforeFeat
  rw [e163, e164, e165, e166, e167, e168, e169]

end Cert.Same
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.RefTerms
public import proofs.«01_k».proof.Proof.Results

@[expose] public section

noncomputable section

namespace Cert.Proof

open Idealize.ShloMosaic Idealize.ShloMosaic.TcCoe Idealize.SL.Sem

/-- The shape relations the precondition states. -/
theorem range_facts : Cert.Pre_labels_in_range.Facts where
  bcast_S_S50000 := by decide +kernel
  bcast_S_S12500 := by decide +kernel
  bcast_S_S800000 := by decide +kernel

/-- The reference's frame: its run ends with its arguments as they were. -/
theorem reference_frame : quiescent_ReferenceIdeal (hReferenceIdeal := Cert.ReferenceIdeal.Gen.facts) := fun m g _ =>
  (θ_run Cert.ReferenceIdeal.defs _ _).mono
    (fun r h => ⟨fun c => (h c).2.2.2.2, sem_eq_zero_of_no_sems rfl r.2⟩) (Cert.ReferenceIdeal.Value.run m g)

/-- The precondition read: every label is a number within its range. -/
theorem in_range (m : (ℓ : Loc Cert.KernelIdeal.nD Cert.KernelIdeal.τ Cert.KernelIdeal.sig) → Buf (Elt Ideal) ℓ)
    (h : Pre_KernelIdeal_labels_in_range (hPre_labels_in_range := range_facts) m) (c : Dev Cert.KernelIdeal.nD) : Cert.Same.InRange m c where
  node i := Cert.Same.label_of_range 16 (by norm_num) _ (congrFun (h c).1 (ix1 i))
  residue i := Cert.Same.label_of_range 20 (by norm_num) _ (congrFun (h c).2.1 (ix1 i))
  relation i := Cert.Same.label_of_range 7 (by norm_num) _ (congrFun (h c).2.2 (ix1 i))

/-- The kernel's run leaves the four contents the end state names, its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ (c : Dev Cert.KernelIdeal.nD) (b : Ref Cert.KernelIdeal.sig .tc),
        ¬ (Proc.devRef .tc b : DevRef Cert.KernelIdeal.τ Cert.KernelIdeal.sig).isScoped →
        r.2.mem ((c.tc : Thread Cert.KernelIdeal.nD Cert.KernelIdeal.τ).loc b) = Cert.KernelIdeal.Run.atEnd m c b) :=
  (θ_run Cert.KernelIdeal.defs _ _).mono (fun r h c b hb => h.1 c _ (Cert.KernelIdeal.Run.mem_uc b hb)) (Cert.KernelIdeal.Run.run m g)

open Cert.KernelIdeal in
/-- The kernel's four results are the reference's, on equal arguments whose labels are within their ranges. -/
theorem same_results : algebraic_KernelIdeal_ReferenceIdeal_pre_labels_in_range (hKernelIdeal := Cert.KernelIdeal.Gen.facts)
    (hReferenceIdeal := Cert.ReferenceIdeal.Gen.facts) (hPre_labels_in_range := range_facts) := by
  intro m g m' g' hpre hargs
  have hr := in_range m hpre
  refine ⟨fun c => Cert.KernelIdeal.Run.atEnd m c main_v0_0, fun c => Cert.KernelIdeal.Run.atEnd m c main_v0_1,
    fun c => Cert.KernelIdeal.Run.atEnd m c main_v0_2, fun c => Cert.KernelIdeal.Run.atEnd m c main_v0_3, ?_, ?_⟩
  · refine (θ_run Cert.KernelIdeal.defs _ _).mono (fun r h c => ?_) (kernel_run m g)
    have ha := Cert.KernelIdeal.Run.atEnd_args m c
    exact ⟨h c _ (by decide), h c _ (by decide), h c _ (by decide), h c _ (by decide),
      (h c _ (by decide)).trans (ha main_arg0 (by decide)), (h c _ (by decide)).trans (ha main_arg1 (by decide)),
      (h c _ (by decide)).trans (ha main_arg2 (by decide)), (h c _ (by decide)).trans (ha main_arg3 (by decide)),
      (h c _ (by decide)).trans (ha main_arg4 (by decide)), (h c _ (by decide)).trans (ha main_arg5 (by decide))⟩
  · refine (θ_run Cert.ReferenceIdeal.defs _ _).mono (fun r h c => ?_) (Cert.ReferenceIdeal.Terms.run_terms m' g')
    obtain ⟨h0, h1, h2, h3, hrest⟩ := h c
    have e0 : StableHlo.launchContents m' c Cert.ReferenceIdeal.main_arg0 = Cert.Same.A0 m c := (hargs c).1
    have e1 : StableHlo.launchContents m' c Cert.ReferenceIdeal.main_arg1 = Cert.Same.A1 m c := (hargs c).2.1
    have e2 : StableHlo.launchContents m' c Cert.ReferenceIdeal.main_arg2 = Cert.Same.A2 m c := (hargs c).2.2.1
    have e3 : StableHlo.launchContents m' c Cert.ReferenceIdeal.main_arg3 = Cert.Same.A3 m c := (hargs c).2.2.2.1
    have e4 : StableHlo.launchContents m' c Cert.ReferenceIdeal.main_arg4 = Cert.Same.A4 m c := (hargs c).2.2.2.2.1
    have e5 : StableHlo.launchContents m' c Cert.ReferenceIdeal.main_arg5 = Cert.Same.A5 m c := (hargs c).2.2.2.2.2
    refine ⟨h0.trans ?_, h1.trans ?_, h2.trans ?_, h3.trans ?_, hrest⟩
    · refine Eq.trans ?_ (Cert.Same.end_edges m c (hr c)).symm
      simp only [Cert.ReferenceIdeal.Terms.edges, Cert.ReferenceIdeal.Terms.tails, Cert.ReferenceIdeal.Terms.heads,
        Cert.ReferenceIdeal.Terms.rels, Cert.ReferenceIdeal.Terms.keys, e3, e4, e5]
    · refine Eq.trans ?_ (Cert.Same.end_features m c (hr c)).symm
      simp only [Cert.ReferenceIdeal.Terms.feats, Cert.ReferenceIdeal.Terms.tails, Cert.ReferenceIdeal.Terms.heads,
        Cert.ReferenceIdeal.Terms.rels, Cert.ReferenceIdeal.Terms.keys, e0, e1, e2, e3, e4, e5]
    · refine Eq.trans ?_ (Cert.Same.end_offsets m c (hr c)).symm
      simp only [Cert.ReferenceIdeal.Terms.offs, Cert.ReferenceIdeal.Terms.keys, e3, e4]
    · refine Eq.trans ?_ (Cert.Same.end_counts m c).symm
      simp only [Cert.ReferenceIdeal.Terms.keys, e3, e4]

/-- Everything claimed. -/
theorem claim : Cert.Claim :=
  ⟨Cert.Kernel.Gen.facts, Cert.KernelIdeal.Gen.facts, Cert.ReferenceIdeal.Gen.facts, range_facts,
    fun m g _ => Cert.SameText.frame m g, fun m g _ => Cert.KernelIdeal.Run.frame m g, fun m g _ => Cert.KernelIdeal.Run.frame m g,
    reference_frame, fun m g _ => reference_frame m g trivial, trivial, same_results⟩

end Cert.Proof

end
